-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
-- ==== Kernel.lean ====
abbrev S4x8192x4096 : Shape := ⟨3, ![4, 8192, 4096]⟩
abbrev S4x8192x1024 : Shape := ⟨3, ![4, 8192, 1024]⟩
abbrev S1x8192x128 : Shape := ⟨3, ![1, 8192, 128]⟩
abbrev S8192x128 : Shape := ⟨2, ![8192, 128]⟩
abbrev S128x128 : Shape := ⟨2, ![128, 128]⟩
abbrev S128x256 : Shape := ⟨2, ![128, 256]⟩
abbrev S1x128x128 : Shape := ⟨3, ![1, 128, 128]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩

abbrev nBuf : Space → Nat
  | .hbm => 2
  | .vmem => 10
  | .smem => 0
  | _ => 0

abbrev bufTy : (tb : Table) → Fin (tcTables nBuf tb) → BufTy
  | .hbm, ⟨0, _⟩ => ⟨S4x8192x4096, .f32⟩
  | .hbm, ⟨1, _⟩ => ⟨S4x8192x1024, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S1x8192x128, .f32⟩
  | .local _ .vmem, ⟨7, _⟩ => ⟨S1x8192x128, .f32⟩
  | .local _ .vmem, ⟨8, _⟩ => ⟨S8192x128, .f32⟩
  | .local _ .vmem, ⟨9, _⟩ => ⟨S8192x128, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c64_i32_0 : BitVec 32 := 64#32
  let v6 : BitVec 32 := Scalar.addi c0_i32 c64_i32_0
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c0_i32_11 : BitVec 32 := 0#32
  let v10 : BitVec 1 := Scalar.cmpi .sgt arg8 c0_i32_11
  let v11 : BitVec 32 := Scalar.extui v10
  let c0_i32_12 : BitVec 32 := 0#32
  let v12 : BitVec 1 := Scalar.cmpi .slt arg8 c0_i32_12
  let v13 : BitVec 32 := Scalar.extui v12
  let v14 : BitVec 32 := Scalar.subi v11 v13
  let c64_i32_10 : BitVec 32 := 64#32
  let c0_i32_13 : BitVec 32 := 0#32
  let v15 : BitVec 1 := Scalar.cmpi .sgt c64_i32_10 c0_i32_13
  let v16 : BitVec 32 := Scalar.extui v15
  let c0_i32_14 : BitVec 32 := 0#32
  let v17 : BitVec 1 := Scalar.cmpi .slt c64_i32_10 c0_i32_14
  let v18 : BitVec 32 := Scalar.extui v17
  let v19 : BitVec 32 := Scalar.subi v16 v18
  let v20 : BitVec 1 := Scalar.cmpi .ne v14 v19
  let v21 : BitVec 32 := Scalar.remsi arg8 c64_i32_10
  let c0_i32_15 : BitVec 32 := 0#32
  let v22 : BitVec 1 := Scalar.cmpi .ne v21 c0_i32_15
  let v23 : BitVec 1 := Scalar.andi v20 v22
  let v9 : BitVec 32 := Scalar.divsi arg8 c64_i32_10
  let c1_i32_16 : BitVec 32 := 1#32
  let v24 : BitVec 32 := Scalar.subi v9 c1_i32_16
  let v25 : BitVec 32 := Scalar.select v23 v24 v9
  let c128_i32 : BitVec 32 := 128#32
  let c64_i32_17 : BitVec 32 := 64#32
  let c0_i32_18 : BitVec 32 := 0#32
  let v26 : BitVec 1 := Scalar.cmpi .eq c64_i32_17 c0_i32_18
  let c1_i32_19 : BitVec 32 := 1#32
  let v27 : BitVec 32 := Scalar.select v26 c1_i32_19 c64_i32_17
  let v28 : BitVec 32 := Scalar.remsi arg8 v27
  let c0_i32_21 : BitVec 32 := 0#32
  let v30 : BitVec 1 := Scalar.cmpi .slt v28 c0_i32_21
  let c0_i32_22 : BitVec 32 := 0#32
  let v31 : BitVec 1 := Scalar.cmpi .slt v27 c0_i32_22
  let v32 : BitVec 1 := Scalar.xori v30 v31
  let c0_i32_20 : BitVec 32 := 0#32
  let v29 : BitVec 1 := Scalar.cmpi .ne v28 c0_i32_20
  let v33 : BitVec 1 := Scalar.andi v32 v29
  let v34 : BitVec 32 := Scalar.addi v28 v27
  let v35 : BitVec 32 := Scalar.select v33 v34 v28
  let v38 : BitVec 32 := Scalar.muli c128_i32 v35
  let v39 : BitVec 32 := Scalar.addi v25 v38
  v39
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c0_i32_11 : BitVec 32 := 0#32
  let v10 : BitVec 1 := Scalar.cmpi .sgt arg8 c0_i32_11
  let v11 : BitVec 32 := Scalar.extui v10
  let c0_i32_12 : BitVec 32 := 0#32
  let v12 : BitVec 1 := Scalar.cmpi .slt arg8 c0_i32_12
  let v13 : BitVec 32 := Scalar.extui v12
  let v14 : BitVec 32 := Scalar.subi v11 v13
  let c64_i32_10 : BitVec 32 := 64#32
  let c0_i32_13 : BitVec 32 := 0#32
  let v15 : BitVec 1 := Scalar.cmpi .sgt c64_i32_10 c0_i32_13
  let v16 : BitVec 32 := Scalar.extui v15
  let c0_i32_14 : BitVec 32 := 0#32
  let v17 : BitVec 1 := Scalar.cmpi .slt c64_i32_10 c0_i32_14
  let v18 : BitVec 32 := Scalar.extui v17
  let v19 : BitVec 32 := Scalar.subi v16 v18
  let v20 : BitVec 1 := Scalar.cmpi .ne v14 v19
  let v21 : BitVec 32 := Scalar.remsi arg8 c64_i32_10
  let c0_i32_15 : BitVec 32 := 0#32
  let v22 : BitVec 1 := Scalar.cmpi .ne v21 c0_i32_15
  let v23 : BitVec 1 := Scalar.andi v20 v22
  let v9 : BitVec 32 := Scalar.divsi arg8 c64_i32_10
  let c1_i32_16 : BitVec 32 := 1#32
  let v24 : BitVec 32 := Scalar.subi v9 c1_i32_16
  let v25 : BitVec 32 := Scalar.select v23 v24 v9
  let c128_i32_25 : BitVec 32 := 128#32
  let c64_i32_17 : BitVec 32 := 64#32
  let c0_i32_18 : BitVec 32 := 0#32
  let v26 : BitVec 1 := Scalar.cmpi .eq c64_i32_17 c0_i32_18
  let c1_i32_19 : BitVec 32 := 1#32
  let v27 : BitVec 32 := Scalar.select v26 c1_i32_19 c64_i32_17
  let v28 : BitVec 32 := Scalar.remsi arg8 v27
  let c0_i32_21 : BitVec 32 := 0#32
  let v30 : BitVec 1 := Scalar.cmpi .slt v28 c0_i32_21
  let c0_i32_22 : BitVec 32 := 0#32
  let v31 : BitVec 1 := Scalar.cmpi .slt v27 c0_i32_22
  let v32 : BitVec 1 := Scalar.xori v30 v31
  let c0_i32_20 : BitVec 32 := 0#32
  let v29 : BitVec 1 := Scalar.cmpi .ne v28 c0_i32_20
  let v33 : BitVec 1 := Scalar.andi v32 v29
  let v34 : BitVec 32 := Scalar.addi v28 v27
  let v35 : BitVec 32 := Scalar.select v33 v34 v28
  let c1_i32_23 : BitVec 32 := 1#32
  let v36 : BitVec 32 := Scalar.subi v35 c1_i32_23
  let c0_i32_24 : BitVec 32 := 0#32
  let v37 : BitVec 32 := Scalar.maxsi v36 c0_i32_24
  let v41 : BitVec 32 := Scalar.muli c128_i32_25 v37
  let v42 : BitVec 32 := Scalar.addi v25 v41
  v42
def k0_off1 (k0_t1 : Fin k0_t1_loop.trips) : Fin 3 → Nat :=
  let c0 : Index := 0#32
  let c0_i32 : BitVec 32 := 0#32
  let c1_i32 : BitVec 32 := 1#32
  let arg8 : BitVec 32 := Scf.iv c0_i32 c1_i32 k0_t1
  let c0_i32_11 : BitVec 32 := 0#32
  let v10 : BitVec 1 := Scalar.cmpi .sgt arg8 c0_i32_11
  let v11 : BitVec 32 := Scalar.extui v10
  let c0_i32_12 : BitVec 32 := 0#32
  let v12 : BitVec 1 := Scalar.cmpi .slt arg8 c0_i32_12
  let v13 : BitVec 32 := Scalar.extui v12
  let v14 : BitVec 32 := Scalar.subi v11 v13
  let c64_i32_10 : BitVec 32 := 64#32
  let c0_i32_13 : BitVec 32 := 0#32
  let v15 : BitVec 1 := Scalar.cmpi .sgt c64_i32_10 c0_i32_13
  let v16 : BitVec 32 := Scalar.extui v15
  let c0_i32_14 : BitVec 32 := 0#32
  let v17 : BitVec 1 := Scalar.cmpi .slt c64_i32_10 c0_i32_14
  let v18 : BitVec 32 := Scalar.extui v17
  let v19 : BitVec 32 := Scalar.subi v16 v18
  let v20 : BitVec 1 := Scalar.cmpi .ne v14 v19
  let v21 : BitVec 32 := Scalar.remsi arg8 c64_i32_10
  let c0_i32_15 : BitVec 32 := 0#32
  let v22 : BitVec 1 := Scalar.cmpi .ne v21 c0_i32_15
  let v23 : BitVec 1 := Scalar.andi v20 v22
  let v9 : BitVec 32 := Scalar.divsi arg8 c64_i32_10
  let c1_i32_16 : BitVec 32 := 1#32
  let v24 : BitVec 32 := Scalar.subi v9 c1_i32_16
  let v25 : BitVec 32 := Scalar.select v23 v24 v9
  let c128_i32 : BitVec 32 := 128#32
  let c64_i32_17 : BitVec 32 := 64#32
  let c0_i32_18 : BitVec 32 := 0#32
  let v26 : BitVec 1 := Scalar.cmpi .eq c64_i32_17 c0_i32_18
  let c1_i32_19 : BitVec 32 := 1#32
  let v27 : BitVec 32 := Scalar.select v26 c1_i32_19 c64_i32_17
  let v28 : BitVec 32 := Scalar.remsi arg8 v27
  let c0_i32_21 : BitVec 32 := 0#32
  let v30 : BitVec 1 := Scalar.cmpi .slt v28 c0_i32_21
  let c0_i32_22 : BitVec 32 := 0#32
  let v31 : BitVec 1 := Scalar.cmpi .slt v27 c0_i32_22
  let v32 : BitVec 1 := Scalar.xori v30 v31
  let c0_i32_20 : BitVec 32 := 0#32
  let v29 : BitVec 1 := Scalar.cmpi .ne v28 c0_i32_20
  let v33 : BitVec 1 := Scalar.andi v32 v29
  let v34 : BitVec 32 := Scalar.addi v28 v27
  let v35 : BitVec 32 := Scalar.select v33 v34 v28
  let v38 : BitVec 32 := Scalar.muli c128_i32 v35
  let v39 : BitVec 32 := Scalar.addi v25 v38
  let v40 : BitVec 32 := v39
  let v53 : Index := Scalar.indexCast v40
  let c0_29 : Index := 0#32
  ![0, v53.toNat, 0]
def k0_off2 (k0_t1 : Fin k0_t1_loop.trips) : Fin 3 → Nat :=
  let c0_30 : Index := 0#32
  let c0_i32 : BitVec 32 := 0#32
  let c1_i32 : BitVec 32 := 1#32
  let arg8 : BitVec 32 := Scf.iv c0_i32 c1_i32 k0_t1
  let c0_i32_11 : BitVec 32 := 0#32
  let v10 : BitVec 1 := Scalar.cmpi .sgt arg8 c0_i32_11
  let v11 : BitVec 32 := Scalar.extui v10
  let c0_i32_12 : BitVec 32 := 0#32
  let v12 : BitVec 1 := Scalar.cmpi .slt arg8 c0_i32_12
  let v13 : BitVec 32 := Scalar.extui v12
  let v14 : BitVec 32 := Scalar.subi v11 v13
  let c64_i32_10 : BitVec 32 := 64#32
  let c0_i32_13 : BitVec 32 := 0#32
  let v15 : BitVec 1 := Scalar.cmpi .sgt c64_i32_10 c0_i32_13
  let v16 : BitVec 32 := Scalar.extui v15
  let c0_i32_14 : BitVec 32 := 0#32
  let v17 : BitVec 1 := Scalar.cmpi .slt c64_i32_10 c0_i32_14
  let v18 : BitVec 32 := Scalar.extui v17
  let v19 : BitVec 32 := Scalar.subi v16 v18
  let v20 : BitVec 1 := Scalar.cmpi .ne v14 v19
  let v21 : BitVec 32 := Scalar.remsi arg8 c64_i32_10
  let c0_i32_15 : BitVec 32 := 0#32
  let v22 : BitVec 1 := Scalar.cmpi .ne v21 c0_i32_15
  let v23 : BitVec 1 := Scalar.andi v20 v22
  let v9 : BitVec 32 := Scalar.divsi arg8 c64_i32_10
  let c1_i32_16 : BitVec 32 := 1#32
  let v24 : BitVec 32 := Scalar.subi v9 c1_i32_16
  let v25 : BitVec 32 := Scalar.select v23 v24 v9
  let c128_i32_25 : BitVec 32 := 128#32
  let c64_i32_17 : BitVec 32 := 64#32
  let c0_i32_18 : BitVec 32 := 0#32
  let v26 : BitVec 1 := Scalar.cmpi .eq c64_i32_17 c0_i32_18
  let c1_i32_19 : BitVec 32 := 1#32
  let v27 : BitVec 32 := Scalar.select v26 c1_i32_19 c64_i32_17
  let v28 : BitVec 32 := Scalar.remsi arg8 v27
  let c0_i32_21 : BitVec 32 := 0#32
  let v30 : BitVec 1 := Scalar.cmpi .slt v28 c0_i32_21
  let c0_i32_22 : BitVec 32 := 0#32
  let v31 : BitVec 1 := Scalar.cmpi .slt v27 c0_i32_22
  let v32 : BitVec 1 := Scalar.xori v30 v31
  let c0_i32_20 : BitVec 32 := 0#32
  let v29 : BitVec 1 := Scalar.cmpi .ne v28 c0_i32_20
  let v33 : BitVec 1 := Scalar.andi v32 v29
  let v34 : BitVec 32 := Scalar.addi v28 v27
  let v35 : BitVec 32 := Scalar.select v33 v34 v28
  let c1_i32_23 : BitVec 32 := 1#32
  let v36 : BitVec 32 := Scalar.subi v35 c1_i32_23
  let c0_i32_24 : BitVec 32 := 0#32
  let v37 : BitVec 32 := Scalar.maxsi v36 c0_i32_24
  let v41 : BitVec 32 := Scalar.muli c128_i32_25 v37
  let v42 : BitVec 32 := Scalar.addi v25 v41
  let v43 : BitVec 32 := v42
  let v58 : Index := Scalar.indexCast v43
  let c0_31 : Index := 0#32
  ![0, v58.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_11 : BitVec 32 := 0#32
  let v10 : BitVec 1 := Scalar.cmpi .sgt arg8 c0_i32_11
  let v11 : BitVec 32 := Scalar.extui v10
  let c0_i32_12 : BitVec 32 := 0#32
  let v12 : BitVec 1 := Scalar.cmpi .slt arg8 c0_i32_12
  let v13 : BitVec 32 := Scalar.extui v12
  let v14 : BitVec 32 := Scalar.subi v11 v13
  let c64_i32_10 : BitVec 32 := 64#32
  let c0_i32_13 : BitVec 32 := 0#32
  let v15 : BitVec 1 := Scalar.cmpi .sgt c64_i32_10 c0_i32_13
  let v16 : BitVec 32 := Scalar.extui v15
  let c0_i32_14 : BitVec 32 := 0#32
  let v17 : BitVec 1 := Scalar.cmpi .slt c64_i32_10 c0_i32_14
  let v18 : BitVec 32 := Scalar.extui v17
  let v19 : BitVec 32 := Scalar.subi v16 v18
  let v20 : BitVec 1 := Scalar.cmpi .ne v14 v19
  let v21 : BitVec 32 := Scalar.remsi arg8 c64_i32_10
  let c0_i32_15 : BitVec 32 := 0#32
  let v22 : BitVec 1 := Scalar.cmpi .ne v21 c0_i32_15
  let v23 : BitVec 1 := Scalar.andi v20 v22
  let v9 : BitVec 32 := Scalar.divsi arg8 c64_i32_10
  let c1_i32_16 : BitVec 32 := 1#32
  let v24 : BitVec 32 := Scalar.subi v9 c1_i32_16
  let v25 : BitVec 32 := Scalar.select v23 v24 v9
  let c128_i32 : BitVec 32 := 128#32
  let c64_i32_17 : BitVec 32 := 64#32
  let c0_i32_18 : BitVec 32 := 0#32
  let v26 : BitVec 1 := Scalar.cmpi .eq c64_i32_17 c0_i32_18
  let c1_i32_19 : BitVec 32 := 1#32
  let v27 : BitVec 32 := Scalar.select v26 c1_i32_19 c64_i32_17
  let v28 : BitVec 32 := Scalar.remsi arg8 v27
  let c0_i32_21 : BitVec 32 := 0#32
  let v30 : BitVec 1 := Scalar.cmpi .slt v28 c0_i32_21
  let c0_i32_22 : BitVec 32 := 0#32
  let v31 : BitVec 1 := Scalar.cmpi .slt v27 c0_i32_22
  let v32 : BitVec 1 := Scalar.xori v30 v31
  let c0_i32_20 : BitVec 32 := 0#32
  let v29 : BitVec 1 := Scalar.cmpi .ne v28 c0_i32_20
  let v33 : BitVec 1 := Scalar.andi v32 v29
  let v34 : BitVec 32 := Scalar.addi v28 v27
  let v35 : BitVec 32 := Scalar.select v33 v34 v28
  let v38 : BitVec 32 := Scalar.muli c128_i32 v35
  let v39 : BitVec 32 := Scalar.addi v25 v38
  let v40 : BitVec 32 := v39
  let v112 : Index := Scalar.indexCast v40
  let c0_49 : Index := 0#32
  ![v112.toNat, 0]
@[reducible] def k0_t2_loop : Scf.Loop 32 :=
  let c0_i32_2 : BitVec 32 := 0#32
  let c64_i32_3 : BitVec 32 := 64#32
  let v7 : BitVec 32 := Scalar.addi c0_i32_2 c64_i32_3
  let c1_i32_4 : BitVec 32 := 1#32
  ⟨c0_i32_2, v7, c1_i32_4⟩
def k0_off4 (k0_t2 : Fin k0_t2_loop.trips) : Fin 3 → Nat :=
  let c0 : Index := 0#32
  let c0_i32_2 : BitVec 32 := 0#32
  let c1_i32_4 : BitVec 32 := 1#32
  let arg8 : BitVec 32 := Scf.iv c0_i32_2 c1_i32_4 k0_t2
  let c0_i32_10 : BitVec 32 := 0#32
  let v10 : BitVec 1 := Scalar.cmpi .sgt arg8 c0_i32_10
  let v11 : BitVec 32 := Scalar.extui v10
  let c0_i32_11 : BitVec 32 := 0#32
  let v12 : BitVec 1 := Scalar.cmpi .slt arg8 c0_i32_11
  let v13 : BitVec 32 := Scalar.extui v12
  let v14 : BitVec 32 := Scalar.subi v11 v13
  let c16_i32 : BitVec 32 := 16#32
  let c0_i32_12 : BitVec 32 := 0#32
  let v15 : BitVec 1 := Scalar.cmpi .sgt c16_i32 c0_i32_12
  let v16 : BitVec 32 := Scalar.extui v15
  let c0_i32_13 : BitVec 32 := 0#32
  let v17 : BitVec 1 := Scalar.cmpi .slt c16_i32 c0_i32_13
  let v18 : BitVec 32 := Scalar.extui v17
  let v19 : BitVec 32 := Scalar.subi v16 v18
  let v20 : BitVec 1 := Scalar.cmpi .ne v14 v19
  let v21 : BitVec 32 := Scalar.remsi arg8 c16_i32
  let c0_i32_14 : BitVec 32 := 0#32
  let v22 : BitVec 1 := Scalar.cmpi .ne v21 c0_i32_14
  let v23 : BitVec 1 := Scalar.andi v20 v22
  let v9 : BitVec 32 := Scalar.divsi arg8 c16_i32
  let c1_i32_15 : BitVec 32 := 1#32
  let v24 : BitVec 32 := Scalar.subi v9 c1_i32_15
  let v25 : BitVec 32 := Scalar.select v23 v24 v9
  let c512_i32 : BitVec 32 := 512#32
  let c16_i32_16 : BitVec 32 := 16#32
  let c0_i32_17 : BitVec 32 := 0#32
  let v26 : BitVec 1 := Scalar.cmpi .eq c16_i32_16 c0_i32_17
  let c1_i32_18 : BitVec 32 := 1#32
  let v27 : BitVec 32 := Scalar.select v26 c1_i32_18 c16_i32_16
  let v28 : BitVec 32 := Scalar.remsi arg8 v27
  let c0_i32_20 : BitVec 32 := 0#32
  let v30 : BitVec 1 := Scalar.cmpi .slt v28 c0_i32_20
  let c0_i32_21 : BitVec 32 := 0#32
  let v31 : BitVec 1 := Scalar.cmpi .slt v27 c0_i32_21
  let v32 : BitVec 1 := Scalar.xori v30 v31
  let c0_i32_19 : BitVec 32 := 0#32
  let v29 : BitVec 1 := Scalar.cmpi .ne v28 c0_i32_19
  let v33 : BitVec 1 := Scalar.andi v32 v29
  let v34 : BitVec 32 := Scalar.addi v28 v27
  let v35 : BitVec 32 := Scalar.select v33 v34 v28
  let v38 : BitVec 32 := Scalar.muli c512_i32 v35
  let v39 : BitVec 32 := Scalar.addi v25 v38
  let v51 : Index := Scalar.indexCast v39
  let c0_27 : Index := 0#32
  ![0, v51.toNat, 0]
def k0_off5 (k0_t2 : Fin k0_t2_loop.trips) : Fin 3 → Nat :=
  let c0_28 : Index := 0#32
  let c0_i32_2 : BitVec 32 := 0#32
  let c1_i32_4 : BitVec 32 := 1#32
  let arg8 : BitVec 32 := Scf.iv c0_i32_2 c1_i32_4 k0_t2
  let c0_i32_10 : BitVec 32 := 0#32
  let v10 : BitVec 1 := Scalar.cmpi .sgt arg8 c0_i32_10
  let v11 : BitVec 32 := Scalar.extui v10
  let c0_i32_11 : BitVec 32 := 0#32
  let v12 : BitVec 1 := Scalar.cmpi .slt arg8 c0_i32_11
  let v13 : BitVec 32 := Scalar.extui v12
  let v14 : BitVec 32 := Scalar.subi v11 v13
  let c16_i32 : BitVec 32 := 16#32
  let c0_i32_12 : BitVec 32 := 0#32
  let v15 : BitVec 1 := Scalar.cmpi .sgt c16_i32 c0_i32_12
  let v16 : BitVec 32 := Scalar.extui v15
  let c0_i32_13 : BitVec 32 := 0#32
  let v17 : BitVec 1 := Scalar.cmpi .slt c16_i32 c0_i32_13
  let v18 : BitVec 32 := Scalar.extui v17
  let v19 : BitVec 32 := Scalar.subi v16 v18
  let v20 : BitVec 1 := Scalar.cmpi .ne v14 v19
  let v21 : BitVec 32 := Scalar.remsi arg8 c16_i32
  let c0_i32_14 : BitVec 32 := 0#32
  let v22 : BitVec 1 := Scalar.cmpi .ne v21 c0_i32_14
  let v23 : BitVec 1 := Scalar.andi v20 v22
  let v9 : BitVec 32 := Scalar.divsi arg8 c16_i32
  let c1_i32_15 : BitVec 32 := 1#32
  let v24 : BitVec 32 := Scalar.subi v9 c1_i32_15
  let v25 : BitVec 32 := Scalar.select v23 v24 v9
  let c512_i32_24 : BitVec 32 := 512#32
  let c16_i32_16 : BitVec 32 := 16#32
  let c0_i32_17 : BitVec 32 := 0#32
  let v26 : BitVec 1 := Scalar.cmpi .eq c16_i32_16 c0_i32_17
  let c1_i32_18 : BitVec 32 := 1#32
  let v27 : BitVec 32 := Scalar.select v26 c1_i32_18 c16_i32_16
  let v28 : BitVec 32 := Scalar.remsi arg8 v27
  let c0_i32_20 : BitVec 32 := 0#32
  let v30 : BitVec 1 := Scalar.cmpi .slt v28 c0_i32_20
  let c0_i32_21 : BitVec 32 := 0#32
  let v31 : BitVec 1 := Scalar.cmpi .slt v27 c0_i32_21
  let v32 : BitVec 1 := Scalar.xori v30 v31
  let c0_i32_19 : BitVec 32 := 0#32
  let v29 : BitVec 1 := Scalar.cmpi .ne v28 c0_i32_19
  let v33 : BitVec 1 := Scalar.andi v32 v29
  let v34 : BitVec 32 := Scalar.addi v28 v27
  let v35 : BitVec 32 := Scalar.select v33 v34 v28
  let c1_i32_22 : BitVec 32 := 1#32
  let v36 : BitVec 32 := Scalar.subi v35 c1_i32_22
  let c0_i32_23 : BitVec 32 := 0#32
  let v37 : BitVec 32 := Scalar.maxsi v36 c0_i32_23
  let v40 : BitVec 32 := Scalar.muli c512_i32_24 v37
  let v41 : BitVec 32 := Scalar.addi v25 v40
  let v56 : Index := Scalar.indexCast v41
  let c0_29 : Index := 0#32
  ![0, v56.toNat, 0]
def k0_off6 (k0_t2 : Fin k0_t2_loop.trips) : Fin 2 → Nat :=
  let c0_i32_2 : BitVec 32 := 0#32
  let c1_i32_4 : BitVec 32 := 1#32
  let arg8 : BitVec 32 := Scf.iv c0_i32_2 c1_i32_4 k0_t2
  let c0_i32_10 : BitVec 32 := 0#32
  let v10 : BitVec 1 := Scalar.cmpi .sgt arg8 c0_i32_10
  let v11 : BitVec 32 := Scalar.extui v10
  let c0_i32_11 : BitVec 32 := 0#32
  let v12 : BitVec 1 := Scalar.cmpi .slt arg8 c0_i32_11
  let v13 : BitVec 32 := Scalar.extui v12
  let v14 : BitVec 32 := Scalar.subi v11 v13
  let c16_i32 : BitVec 32 := 16#32
  let c0_i32_12 : BitVec 32 := 0#32
  let v15 : BitVec 1 := Scalar.cmpi .sgt c16_i32 c0_i32_12
  let v16 : BitVec 32 := Scalar.extui v15
  let c0_i32_13 : BitVec 32 := 0#32
  let v17 : BitVec 1 := Scalar.cmpi .slt c16_i32 c0_i32_13
  let v18 : BitVec 32 := Scalar.extui v17
  let v19 : BitVec 32 := Scalar.subi v16 v18
  let v20 : BitVec 1 := Scalar.cmpi .ne v14 v19
  let v21 : BitVec 32 := Scalar.remsi arg8 c16_i32
  let c0_i32_14 : BitVec 32 := 0#32
  let v22 : BitVec 1 := Scalar.cmpi .ne v21 c0_i32_14
  let v23 : BitVec 1 := Scalar.andi v20 v22
  let v9 : BitVec 32 := Scalar.divsi arg8 c16_i32
  let c1_i32_15 : BitVec 32 := 1#32
  let v24 : BitVec 32 := Scalar.subi v9 c1_i32_15
  let v25 : BitVec 32 := Scalar.select v23 v24 v9
  let c512_i32 : BitVec 32 := 512#32
  let c16_i32_16 : BitVec 32 := 16#32
  let c0_i32_17 : BitVec 32 := 0#32
  let v26 : BitVec 1 := Scalar.cmpi .eq c16_i32_16 c0_i32_17
  let c1_i32_18 : BitVec 32 := 1#32
  let v27 : BitVec 32 := Scalar.select v26 c1_i32_18 c16_i32_16
  let v28 : BitVec 32 := Scalar.remsi arg8 v27
  let c0_i32_20 : BitVec 32 := 0#32
  let v30 : BitVec 1 := Scalar.cmpi .slt v28 c0_i32_20
  let c0_i32_21 : BitVec 32 := 0#32
  let v31 : BitVec 1 := Scalar.cmpi .slt v27 c0_i32_21
  let v32 : BitVec 1 := Scalar.xori v30 v31
  let c0_i32_19 : BitVec 32 := 0#32
  let v29 : BitVec 1 := Scalar.cmpi .ne v28 c0_i32_19
  let v33 : BitVec 1 := Scalar.andi v32 v29
  let v34 : BitVec 32 := Scalar.addi v28 v27
  let v35 : BitVec 32 := Scalar.select v33 v34 v28
  let v38 : BitVec 32 := Scalar.muli c512_i32 v35
  let v39 : BitVec 32 := Scalar.addi v25 v38
  let v109 : Index := Scalar.indexCast v39
  let c0_47 : Index := 0#32
  ![v109.toNat, 0]
@[reducible] def k0_t3_loop : Scf.Loop 32 :=
  let c0_i32_6 : BitVec 32 := 0#32
  let c64_i32_7 : BitVec 32 := 64#32
  let v8 : BitVec 32 := Scalar.addi c0_i32_6 c64_i32_7
  let c1_i32_8 : BitVec 32 := 1#32
  ⟨c0_i32_6, v8, c1_i32_8⟩
def k0_off7 (k0_t3 : Fin k0_t3_loop.trips) : Fin 3 → Nat :=
  let c0 : Index := 0#32
  let c0_i32_6 : BitVec 32 := 0#32
  let c1_i32_8 : BitVec 32 := 1#32
  let arg8 : BitVec 32 := Scf.iv c0_i32_6 c1_i32_8 k0_t3
  let c0_i32_10 : BitVec 32 := 0#32
  let v10 : BitVec 1 := Scalar.cmpi .sgt arg8 c0_i32_10
  let v11 : BitVec 32 := Scalar.extui v10
  let c0_i32_11 : BitVec 32 := 0#32
  let v12 : BitVec 1 := Scalar.cmpi .slt arg8 c0_i32_11
  let v13 : BitVec 32 := Scalar.extui v12
  let v14 : BitVec 32 := Scalar.subi v11 v13
  let c4_i32 : BitVec 32 := 4#32
  let c0_i32_12 : BitVec 32 := 0#32
  let v15 : BitVec 1 := Scalar.cmpi .sgt c4_i32 c0_i32_12
  let v16 : BitVec 32 := Scalar.extui v15
  let c0_i32_13 : BitVec 32 := 0#32
  let v17 : BitVec 1 := Scalar.cmpi .slt c4_i32 c0_i32_13
  let v18 : BitVec 32 := Scalar.extui v17
  let v19 : BitVec 32 := Scalar.subi v16 v18
  let v20 : BitVec 1 := Scalar.cmpi .ne v14 v19
  let v21 : BitVec 32 := Scalar.remsi arg8 c4_i32
  let c0_i32_14 : BitVec 32 := 0#32
  let v22 : BitVec 1 := Scalar.cmpi .ne v21 c0_i32_14
  let v23 : BitVec 1 := Scalar.andi v20 v22
  let v9 : BitVec 32 := Scalar.divsi arg8 c4_i32
  let c1_i32_15 : BitVec 32 := 1#32
  let v24 : BitVec 32 := Scalar.subi v9 c1_i32_15
  let v25 : BitVec 32 := Scalar.select v23 v24 v9
  let c2048_i32 : BitVec 32 := 2048#32
  let c4_i32_16 : BitVec 32 := 4#32
  let c0_i32_17 : BitVec 32 := 0#32
  let v26 : BitVec 1 := Scalar.cmpi .eq c4_i32_16 c0_i32_17
  let c1_i32_18 : BitVec 32 := 1#32
  let v27 : BitVec 32 := Scalar.select v26 c1_i32_18 c4_i32_16
  let v28 : BitVec 32 := Scalar.remsi arg8 v27
  let c0_i32_20 : BitVec 32 := 0#32
  let v30 : BitVec 1 := Scalar.cmpi .slt v28 c0_i32_20
  let c0_i32_21 : BitVec 32 := 0#32
  let v31 : BitVec 1 := Scalar.cmpi .slt v27 c0_i32_21
  let v32 : BitVec 1 := Scalar.xori v30 v31
  let c0_i32_19 : BitVec 32 := 0#32
  let v29 : BitVec 1 := Scalar.cmpi .ne v28 c0_i32_19
  let v33 : BitVec 1 := Scalar.andi v32 v29
  let v34 : BitVec 32 := Scalar.addi v28 v27
  let v35 : BitVec 32 := Scalar.select v33 v34 v28
  let v38 : BitVec 32 := Scalar.muli c2048_i32 v35
  let v39 : BitVec 32 := Scalar.addi v25 v38
  let v51 : Index := Scalar.indexCast v39
  let c0_27 : Index := 0#32
  ![0, v51.toNat, 0]
def k0_off8 (k0_t3 : Fin k0_t3_loop.trips) : Fin 3 → Nat :=
  let c0_28 : Index := 0#32
  let c0_i32_6 : BitVec 32 := 0#32
  let c1_i32_8 : BitVec 32 := 1#32
  let arg8 : BitVec 32 := Scf.iv c0_i32_6 c1_i32_8 k0_t3
  let c0_i32_10 : BitVec 32 := 0#32
  let v10 : BitVec 1 := Scalar.cmpi .sgt arg8 c0_i32_10
  let v11 : BitVec 32 := Scalar.extui v10
  let c0_i32_11 : BitVec 32 := 0#32
  let v12 : BitVec 1 := Scalar.cmpi .slt arg8 c0_i32_11
  let v13 : BitVec 32 := Scalar.extui v12
  let v14 : BitVec 32 := Scalar.subi v11 v13
  let c4_i32 : BitVec 32 := 4#32
  let c0_i32_12 : BitVec 32 := 0#32
  let v15 : BitVec 1 := Scalar.cmpi .sgt c4_i32 c0_i32_12
  let v16 : BitVec 32 := Scalar.extui v15
  let c0_i32_13 : BitVec 32 := 0#32
  let v17 : BitVec 1 := Scalar.cmpi .slt c4_i32 c0_i32_13
  let v18 : BitVec 32 := Scalar.extui v17
  let v19 : BitVec 32 := Scalar.subi v16 v18
  let v20 : BitVec 1 := Scalar.cmpi .ne v14 v19
  let v21 : BitVec 32 := Scalar.remsi arg8 c4_i32
  let c0_i32_14 : BitVec 32 := 0#32
  let v22 : BitVec 1 := Scalar.cmpi .ne v21 c0_i32_14
  let v23 : BitVec 1 := Scalar.andi v20 v22
  let v9 : BitVec 32 := Scalar.divsi arg8 c4_i32
  let c1_i32_15 : BitVec 32 := 1#32
  let v24 : BitVec 32 := Scalar.subi v9 c1_i32_15
  let v25 : BitVec 32 := Scalar.select v23 v24 v9
  let c2048_i32_24 : BitVec 32 := 2048#32
  let c4_i32_16 : BitVec 32 := 4#32
  let c0_i32_17 : BitVec 32 := 0#32
  let v26 : BitVec 1 := Scalar.cmpi .eq c4_i32_16 c0_i32_17
  let c1_i32_18 : BitVec 32 := 1#32
  let v27 : BitVec 32 := Scalar.select v26 c1_i32_18 c4_i32_16
  let v28 : BitVec 32 := Scalar.remsi arg8 v27
  let c0_i32_20 : BitVec 32 := 0#32
  let v30 : BitVec 1 := Scalar.cmpi .slt v28 c0_i32_20
  let c0_i32_21 : BitVec 32 := 0#32
  let v31 : BitVec 1 := Scalar.cmpi .slt v27 c0_i32_21
  let v32 : BitVec 1 := Scalar.xori v30 v31
  let c0_i32_19 : BitVec 32 := 0#32
  let v29 : BitVec 1 := Scalar.cmpi .ne v28 c0_i32_19
  let v33 : BitVec 1 := Scalar.andi v32 v29
  let v34 : BitVec 32 := Scalar.addi v28 v27
  let v35 : BitVec 32 := Scalar.select v33 v34 v28
  let c1_i32_22 : BitVec 32 := 1#32
  let v36 : BitVec 32 := Scalar.subi v35 c1_i32_22
  let c0_i32_23 : BitVec 32 := 0#32
  let v37 : BitVec 32 := Scalar.maxsi v36 c0_i32_23
  let v40 : BitVec 32 := Scalar.muli c2048_i32_24 v37
  let v41 : BitVec 32 := Scalar.addi v25 v40
  let v56 : Index := Scalar.indexCast v41
  let c0_29 : Index := 0#32
  ![0, v56.toNat, 0]
def k0_off9 (k0_t3 : Fin k0_t3_loop.trips) : Fin 2 → Nat :=
  let c0_i32_6 : BitVec 32 := 0#32
  let c1_i32_8 : BitVec 32 := 1#32
  let arg8 : BitVec 32 := Scf.iv c0_i32_6 c1_i32_8 k0_t3
  let c0_i32_10 : BitVec 32 := 0#32
  let v10 : BitVec 1 := Scalar.cmpi .sgt arg8 c0_i32_10
  let v11 : BitVec 32 := Scalar.extui v10
  let c0_i32_11 : BitVec 32 := 0#32
  let v12 : BitVec 1 := Scalar.cmpi .slt arg8 c0_i32_11
  let v13 : BitVec 32 := Scalar.extui v12
  let v14 : BitVec 32 := Scalar.subi v11 v13
  let c4_i32 : BitVec 32 := 4#32
  let c0_i32_12 : BitVec 32 := 0#32
  let v15 : BitVec 1 := Scalar.cmpi .sgt c4_i32 c0_i32_12
  let v16 : BitVec 32 := Scalar.extui v15
  let c0_i32_13 : BitVec 32 := 0#32
  let v17 : BitVec 1 := Scalar.cmpi .slt c4_i32 c0_i32_13
  let v18 : BitVec 32 := Scalar.extui v17
  let v19 : BitVec 32 := Scalar.subi v16 v18
  let v20 : BitVec 1 := Scalar.cmpi .ne v14 v19
  let v21 : BitVec 32 := Scalar.remsi arg8 c4_i32
  let c0_i32_14 : BitVec 32 := 0#32
  let v22 : BitVec 1 := Scalar.cmpi .ne v21 c0_i32_14
  let v23 : BitVec 1 := Scalar.andi v20 v22
  let v9 : BitVec 32 := Scalar.divsi arg8 c4_i32
  let c1_i32_15 : BitVec 32 := 1#32
  let v24 : BitVec 32 := Scalar.subi v9 c1_i32_15
  let v25 : BitVec 32 := Scalar.select v23 v24 v9
  let c2048_i32 : BitVec 32 := 2048#32
  let c4_i32_16 : BitVec 32 := 4#32
  let c0_i32_17 : BitVec 32 := 0#32
  let v26 : BitVec 1 := Scalar.cmpi .eq c4_i32_16 c0_i32_17
  let c1_i32_18 : BitVec 32 := 1#32
  let v27 : BitVec 32 := Scalar.select v26 c1_i32_18 c4_i32_16
  let v28 : BitVec 32 := Scalar.remsi arg8 v27
  let c0_i32_20 : BitVec 32 := 0#32
  let v30 : BitVec 1 := Scalar.cmpi .slt v28 c0_i32_20
  let c0_i32_21 : BitVec 32 := 0#32
  let v31 : BitVec 1 := Scalar.cmpi .slt v27 c0_i32_21
  let v32 : BitVec 1 := Scalar.xori v30 v31
  let c0_i32_19 : BitVec 32 := 0#32
  let v29 : BitVec 1 := Scalar.cmpi .ne v28 c0_i32_19
  let v33 : BitVec 1 := Scalar.andi v32 v29
  let v34 : BitVec 32 := Scalar.addi v28 v27
  let v35 : BitVec 32 := Scalar.select v33 v34 v28
  let v38 : BitVec 32 := Scalar.muli c2048_i32 v35
  let v39 : BitVec 32 := Scalar.addi v25 v38
  let v109 : Index := Scalar.indexCast v39
  let c0_47 : Index := 0#32
  ![v109.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x4096 : Shape := ⟨3, ![4, 8192, 4096]⟩
abbrev S4x8192x1024 : Shape := ⟨3, ![4, 8192, 1024]⟩
abbrev S4x8192x16x64 : Shape := ⟨4, ![4, 8192, 16, 64]⟩
abbrev S4x8192x1x16x64 : Shape := ⟨5, ![4, 8192, 1, 16, 64]⟩
abbrev S4x1x16x8192x64 : Shape := ⟨5, ![4, 1, 16, 8192, 64]⟩
abbrev S4x16x8192x64 : Shape := ⟨4, ![4, 16, 8192, 64]⟩
abbrev S4x16x64x128x64 : Shape := ⟨5, ![4, 16, 64, 128, 64]⟩
abbrev S_ : Shape := ⟨0, ![]⟩
abbrev S4x16x128x64 : Shape := ⟨4, ![4, 16, 128, 64]⟩
abbrev S4x16x8320x64 : Shape := ⟨4, ![4, 16, 8320, 64]⟩
abbrev S4x16x64x256x64 : Shape := ⟨5, ![4, 16, 64, 256, 64]⟩
abbrev S4x16x64x128x256 : Shape := ⟨5, ![4, 16, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S4x16x64x128 : Shape := ⟨4, ![4, 16, 64, 128]⟩
abbrev S4x16x64x128x1 : Shape := ⟨5, ![4, 16, 64, 128, 1]⟩
abbrev S4x16x8192 : Shape := ⟨3, ![4, 16, 8192]⟩
abbrev S4x1x16x8192 : Shape := ⟨4, ![4, 1, 16, 8192]⟩
abbrev S4x8192x1x16 : Shape := ⟨4, ![4, 8192, 1, 16]⟩
abbrev S4x8192x16 : Shape := ⟨3, ![4, 8192, 16]⟩
abbrev S4x2048x4x16x64 : Shape := ⟨5, ![4, 2048, 4, 16, 64]⟩
abbrev S4x4x16x2048x64 : Shape := ⟨5, ![4, 4, 16, 2048, 64]⟩
abbrev S16x16x2048x64 : Shape := ⟨4, ![16, 16, 2048, 64]⟩
abbrev S16x16x16x128x64 : Shape := ⟨5, ![16, 16, 16, 128, 64]⟩
abbrev S16x16x128x64 : Shape := ⟨4, ![16, 16, 128, 64]⟩
abbrev S16x16x2176x64 : Shape := ⟨4, ![16, 16, 2176, 64]⟩
abbrev S16x16x16x256x64 : Shape := ⟨5, ![16, 16, 16, 256, 64]⟩
abbrev S16x16x16x128x256 : Shape := ⟨5, ![16, 16, 16, 128, 256]⟩
abbrev S16 : Shape := ⟨1, ![16]⟩
abbrev S16x1x1 : Shape := ⟨3, ![16, 1, 1]⟩
abbrev S16x1x256 : Shape := ⟨3, ![16, 1, 256]⟩
abbrev S16x128x256 : Shape := ⟨3, ![16, 128, 256]⟩
abbrev S16x16x16x128 : Shape := ⟨4, ![16, 16, 16, 128]⟩
abbrev S16x16x16x128x1 : Shape := ⟨5, ![16, 16, 16, 128, 1]⟩
abbrev S16x16x2048 : Shape := ⟨3, ![16, 16, 2048]⟩
abbrev S4x4x16x2048 : Shape := ⟨4, ![4, 4, 16, 2048]⟩
abbrev S4x2048x4x16 : Shape := ⟨4, ![4, 2048, 4, 16]⟩
abbrev S4x512x16x16x64 : Shape := ⟨5, ![4, 512, 16, 16, 64]⟩
abbrev S4x16x16x512x64 : Shape := ⟨5, ![4, 16, 16, 512, 64]⟩
abbrev S64x16x512x64 : Shape := ⟨4, ![64, 16, 512, 64]⟩
abbrev S64x16x4x128x64 : Shape := ⟨5, ![64, 16, 4, 128, 64]⟩
abbrev S64x16x128x64 : Shape := ⟨4, ![64, 16, 128, 64]⟩
abbrev S64x16x640x64 : Shape := ⟨4, ![64, 16, 640, 64]⟩
abbrev S64x16x4x256x64 : Shape := ⟨5, ![64, 16, 4, 256, 64]⟩
abbrev S64x16x4x128x256 : Shape := ⟨5, ![64, 16, 4, 128, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S64x16x4x128 : Shape := ⟨4, ![64, 16, 4, 128]⟩
abbrev S64x16x4x128x1 : Shape := ⟨5, ![64, 16, 4, 128, 1]⟩
abbrev S64x16x512 : Shape := ⟨3, ![64, 16, 512]⟩
abbrev S4x16x16x512 : Shape := ⟨4, ![4, 16, 16, 512]⟩
abbrev S4x512x16x16 : Shape := ⟨4, ![4, 512, 16, 16]⟩
abbrev S1x4x8192x16 : Shape := ⟨4, ![1, 4, 8192, 16]⟩
abbrev S3x4x8192x16 : Shape := ⟨4, ![3, 4, 8192, 16]⟩
abbrev S4x8192x16x1 : Shape := ⟨4, ![4, 8192, 16, 1]⟩

abbrev nBuf : Space → Nat
  | .hbm => 331
  | .vmem => 0
  | .smem => 0
  | _ => 0

abbrev hbmTy0_0 (i : Nat) : BufTy := match i % 128 with
  | 0 => ⟨S4x8192x4096, .f32⟩
  | 1 => ⟨S4x8192x1024, .f32⟩
  | 2 => ⟨S4x8192x16x64, .f32⟩
  | 3 => ⟨S4x8192x1024, .f32⟩
  | 4 => ⟨S4x8192x16x64, .f32⟩
  | 5 => ⟨S4x8192x1024, .f32⟩
  | 6 => ⟨S4x8192x16x64, .f32⟩
  | 7 => ⟨S4x8192x1x16x64, .f32⟩
  | 8 => ⟨S4x1x16x8192x64, .f32⟩
  | 9 => ⟨S4x16x8192x64, .f32⟩
  | 10 => ⟨S4x8192x1x16x64, .f32⟩
  | 11 => ⟨S4x1x16x8192x64, .f32⟩
  | 12 => ⟨S4x16x8192x64, .f32⟩
  | 13 => ⟨S4x8192x1x16x64, .f32⟩
  | 14 => ⟨S4x1x16x8192x64, .f32⟩
  | 15 => ⟨S4x16x8192x64, .f32⟩
  | 16 => ⟨S4x16x64x128x64, .f32⟩
  | 17 => ⟨S_, .f32⟩
  | 18 => ⟨S4x16x128x64, .f32⟩
  | 19 => ⟨S4x16x8320x64, .f32⟩
  | 20 => ⟨S_, .f32⟩
  | 21 => ⟨S4x16x128x64, .f32⟩
  | 22 => ⟨S4x16x8320x64, .f32⟩
  | 23 => ⟨S4x16x8192x64, .f32⟩
  | 24 => ⟨S4x16x64x128x64, .f32⟩
  | 25 => ⟨S4x16x8192x64, .f32⟩
  | 26 => ⟨S4x16x64x128x64, .f32⟩
  | 27 => ⟨S4x16x64x256x64, .f32⟩
  | 28 => ⟨S4x16x8192x64, .f32⟩
  | 29 => ⟨S4x16x64x128x64, .f32⟩
  | 30 => ⟨S4x16x8192x64, .f32⟩
  | 31 => ⟨S4x16x64x128x64, .f32⟩
  | 32 => ⟨S4x16x64x256x64, .f32⟩
  | 33 => ⟨S4x16x64x128x256, .f32⟩
  | 34 => ⟨S_, .f32⟩
  | 35 => ⟨S4x16x64x128x256, .f32⟩
  | 36 => ⟨S4x16x64x128x256, .f32⟩
  | 37 => ⟨S128, .i32⟩
  | 38 => ⟨S128x1, .i32⟩
  | 39 => ⟨S256, .i32⟩
  | 40 => ⟨S1x256, .i32⟩
  | 41 => ⟨S_, .i32⟩
  | 42 => ⟨S128x1, .i32⟩
  | 43 => ⟨S128x1, .i32⟩
  | 44 => ⟨S128x256, .i32⟩
  | 45 => ⟨S128x256, .i32⟩
  | 46 => ⟨S128x256, .i32⟩
  | 47 => ⟨S64, .i32⟩
  | 48 => ⟨S64x1x1, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i1⟩
  | 55 => ⟨S128x256, .i1⟩
  | 56 => ⟨S_, .i32⟩
  | 57 => ⟨S64x1x1, .i32⟩
  | 58 => ⟨S64x1x1, .i32⟩
  | 59 => ⟨S1x1x256, .i32⟩
  | 60 => ⟨S64x1x256, .i32⟩
  | 61 => ⟨S64x1x256, .i32⟩
  | 62 => ⟨S64x1x256, .i32⟩
  | 63 => ⟨S_, .i32⟩
  | 64 => ⟨S64x1x256, .i32⟩
  | 65 => ⟨S64x1x256, .i32⟩
  | 66 => ⟨S_, .i32⟩
  | 67 => ⟨S64x1x256, .i32⟩
  | 68 => ⟨S64x1x256, .i1⟩
  | 69 => ⟨S1x128x256, .i1⟩
  | 70 => ⟨S64x128x256, .i1⟩
  | 71 => ⟨S64x128x256, .i1⟩
  | 72 => ⟨S64x128x256, .i1⟩
  | 73 => ⟨S_, .f32⟩
  | 74 => ⟨S_, .f32⟩
  | 75 => ⟨S4x16x64x128x256, .i1⟩
  | 76 => ⟨S4x16x64x128x256, .f32⟩
  | 77 => ⟨S4x16x64x128x256, .f32⟩
  | 78 => ⟨S_, .f32⟩
  | 79 => ⟨S4x16x64x128, .f32⟩
  | 80 => ⟨S4x16x64x128x1, .f32⟩
  | 81 => ⟨S4x16x64x128x256, .f32⟩
  | 82 => ⟨S4x16x64x128x256, .f32⟩
  | 83 => ⟨S4x16x64x128x256, .f32⟩
  | 84 => ⟨S_, .f32⟩
  | 85 => ⟨S4x16x64x128, .f32⟩
  | 86 => ⟨S4x16x64x128x64, .f32⟩
  | 87 => ⟨S4x16x8192x64, .f32⟩
  | 88 => ⟨S4x16x8192, .f32⟩
  | 89 => ⟨S4x16x8192, .f32⟩
  | 90 => ⟨S4x1x16x8192x64, .f32⟩
  | 91 => ⟨S4x8192x1x16x64, .f32⟩
  | 92 => ⟨S4x8192x16x64, .f32⟩
  | 93 => ⟨S4x1x16x8192, .f32⟩
  | 94 => ⟨S4x8192x1x16, .f32⟩
  | 95 => ⟨S4x8192x16, .f32⟩
  | 96 => ⟨S4x1x16x8192, .f32⟩
  | 97 => ⟨S4x8192x1x16, .f32⟩
  | 98 => ⟨S4x8192x16, .f32⟩
  | 99 => ⟨S4x2048x4x16x64, .f32⟩
  | 100 => ⟨S4x4x16x2048x64, .f32⟩
  | 101 => ⟨S16x16x2048x64, .f32⟩
  | 102 => ⟨S4x2048x4x16x64, .f32⟩
  | 103 => ⟨S4x4x16x2048x64, .f32⟩
  | 104 => ⟨S16x16x2048x64, .f32⟩
  | 105 => ⟨S4x2048x4x16x64, .f32⟩
  | 106 => ⟨S4x4x16x2048x64, .f32⟩
  | 107 => ⟨S16x16x2048x64, .f32⟩
  | 108 => ⟨S16x16x16x128x64, .f32⟩
  | 109 => ⟨S_, .f32⟩
  | 110 => ⟨S16x16x128x64, .f32⟩
  | 111 => ⟨S16x16x2176x64, .f32⟩
  | 112 => ⟨S_, .f32⟩
  | 113 => ⟨S16x16x128x64, .f32⟩
  | 114 => ⟨S16x16x2176x64, .f32⟩
  | 115 => ⟨S16x16x2048x64, .f32⟩
  | 116 => ⟨S16x16x16x128x64, .f32⟩
  | 117 => ⟨S16x16x2048x64, .f32⟩
  | 118 => ⟨S16x16x16x128x64, .f32⟩
  | 119 => ⟨S16x16x16x256x64, .f32⟩
  | 120 => ⟨S16x16x2048x64, .f32⟩
  | 121 => ⟨S16x16x16x128x64, .f32⟩
  | 122 => ⟨S16x16x2048x64, .f32⟩
  | 123 => ⟨S16x16x16x128x64, .f32⟩
  | 124 => ⟨S16x16x16x256x64, .f32⟩
  | 125 => ⟨S16x16x16x128x256, .f32⟩
  | 126 => ⟨S_, .f32⟩
  | 127 => ⟨S16x16x16x128x256, .f32⟩
  | _ => ⟨S4x8192x4096, .f32⟩

abbrev hbmTy0_1 (i : Nat) : BufTy := match i % 128 with
  | 0 => ⟨S16x16x16x128x256, .f32⟩
  | 1 => ⟨S128, .i32⟩
  | 2 => ⟨S128x1, .i32⟩
  | 3 => ⟨S256, .i32⟩
  | 4 => ⟨S1x256, .i32⟩
  | 5 => ⟨S_, .i32⟩
  | 6 => ⟨S128x1, .i32⟩
  | 7 => ⟨S128x1, .i32⟩
  | 8 => ⟨S128x256, .i32⟩
  | 9 => ⟨S128x256, .i32⟩
  | 10 => ⟨S128x256, .i32⟩
  | 11 => ⟨S16, .i32⟩
  | 12 => ⟨S16x1x1, .i32⟩
  | 13 => ⟨S_, .i32⟩
  | 14 => ⟨S128x256, .i32⟩
  | 15 => ⟨S128x256, .i1⟩
  | 16 => ⟨S_, .i32⟩
  | 17 => ⟨S128x256, .i32⟩
  | 18 => ⟨S128x256, .i1⟩
  | 19 => ⟨S128x256, .i1⟩
  | 20 => ⟨S_, .i32⟩
  | 21 => ⟨S16x1x1, .i32⟩
  | 22 => ⟨S16x1x1, .i32⟩
  | 23 => ⟨S1x1x256, .i32⟩
  | 24 => ⟨S16x1x256, .i32⟩
  | 25 => ⟨S16x1x256, .i32⟩
  | 26 => ⟨S16x1x256, .i32⟩
  | 27 => ⟨S_, .i32⟩
  | 28 => ⟨S16x1x256, .i32⟩
  | 29 => ⟨S16x1x256, .i32⟩
  | 30 => ⟨S_, .i32⟩
  | 31 => ⟨S16x1x256, .i32⟩
  | 32 => ⟨S16x1x256, .i1⟩
  | 33 => ⟨S1x128x256, .i1⟩
  | 34 => ⟨S16x128x256, .i1⟩
  | 35 => ⟨S16x128x256, .i1⟩
  | 36 => ⟨S16x128x256, .i1⟩
  | 37 => ⟨S_, .f32⟩
  | 38 => ⟨S_, .f32⟩
  | 39 => ⟨S16x16x16x128x256, .i1⟩
  | 40 => ⟨S16x16x16x128x256, .f32⟩
  | 41 => ⟨S16x16x16x128x256, .f32⟩
  | 42 => ⟨S_, .f32⟩
  | 43 => ⟨S16x16x16x128, .f32⟩
  | 44 => ⟨S16x16x16x128x1, .f32⟩
  | 45 => ⟨S16x16x16x128x256, .f32⟩
  | 46 => ⟨S16x16x16x128x256, .f32⟩
  | 47 => ⟨S16x16x16x128x256, .f32⟩
  | 48 => ⟨S_, .f32⟩
  | 49 => ⟨S16x16x16x128, .f32⟩
  | 50 => ⟨S16x16x16x128x64, .f32⟩
  | 51 => ⟨S16x16x2048x64, .f32⟩
  | 52 => ⟨S16x16x2048, .f32⟩
  | 53 => ⟨S16x16x2048, .f32⟩
  | 54 => ⟨S4x4x16x2048x64, .f32⟩
  | 55 => ⟨S4x2048x4x16x64, .f32⟩
  | 56 => ⟨S4x8192x16x64, .f32⟩
  | 57 => ⟨S4x4x16x2048, .f32⟩
  | 58 => ⟨S4x2048x4x16, .f32⟩
  | 59 => ⟨S4x8192x16, .f32⟩
  | 60 => ⟨S4x4x16x2048, .f32⟩
  | 61 => ⟨S4x2048x4x16, .f32⟩
  | 62 => ⟨S4x8192x16, .f32⟩
  | 63 => ⟨S4x512x16x16x64, .f32⟩
  | 64 => ⟨S4x16x16x512x64, .f32⟩
  | 65 => ⟨S64x16x512x64, .f32⟩
  | 66 => ⟨S4x512x16x16x64, .f32⟩
  | 67 => ⟨S4x16x16x512x64, .f32⟩
  | 68 => ⟨S64x16x512x64, .f32⟩
  | 69 => ⟨S4x512x16x16x64, .f32⟩
  | 70 => ⟨S4x16x16x512x64, .f32⟩
  | 71 => ⟨S64x16x512x64, .f32⟩
  | 72 => ⟨S64x16x4x128x64, .f32⟩
  | 73 => ⟨S_, .f32⟩
  | 74 => ⟨S64x16x128x64, .f32⟩
  | 75 => ⟨S64x16x640x64, .f32⟩
  | 76 => ⟨S_, .f32⟩
  | 77 => ⟨S64x16x128x64, .f32⟩
  | 78 => ⟨S64x16x640x64, .f32⟩
  | 79 => ⟨S64x16x512x64, .f32⟩
  | 80 => ⟨S64x16x4x128x64, .f32⟩
  | 81 => ⟨S64x16x512x64, .f32⟩
  | 82 => ⟨S64x16x4x128x64, .f32⟩
  | 83 => ⟨S64x16x4x256x64, .f32⟩
  | 84 => ⟨S64x16x512x64, .f32⟩
  | 85 => ⟨S64x16x4x128x64, .f32⟩
  | 86 => ⟨S64x16x512x64, .f32⟩
  | 87 => ⟨S64x16x4x128x64, .f32⟩
  | 88 => ⟨S64x16x4x256x64, .f32⟩
  | 89 => ⟨S64x16x4x128x256, .f32⟩
  | 90 => ⟨S_, .f32⟩
  | 91 => ⟨S64x16x4x128x256, .f32⟩
  | 92 => ⟨S64x16x4x128x256, .f32⟩
  | 93 => ⟨S128, .i32⟩
  | 94 => ⟨S128x1, .i32⟩
  | 95 => ⟨S256, .i32⟩
  | 96 => ⟨S1x256, .i32⟩
  | 97 => ⟨S_, .i32⟩
  | 98 => ⟨S128x1, .i32⟩
  | 99 => ⟨S128x1, .i32⟩
  | 100 => ⟨S128x256, .i32⟩
  | 101 => ⟨S128x256, .i32⟩
  | 102 => ⟨S128x256, .i32⟩
  | 103 => ⟨S4, .i32⟩
  | 104 => ⟨S4x1x1, .i32⟩
  | 105 => ⟨S_, .i32⟩
  | 106 => ⟨S128x256, .i32⟩
  | 107 => ⟨S128x256, .i1⟩
  | 108 => ⟨S_, .i32⟩
  | 109 => ⟨S128x256, .i32⟩
  | 110 => ⟨S128x256, .i1⟩
  | 111 => ⟨S128x256, .i1⟩
  | 112 => ⟨S_, .i32⟩
  | 113 => ⟨S4x1x1, .i32⟩
  | 114 => ⟨S4x1x1, .i32⟩
  | 115 => ⟨S1x1x256, .i32⟩
  | 116 => ⟨S4x1x256, .i32⟩
  | 117 => ⟨S4x1x256, .i32⟩
  | 118 => ⟨S4x1x256, .i32⟩
  | 119 => ⟨S_, .i32⟩
  | 120 => ⟨S4x1x256, .i32⟩
  | 121 => ⟨S4x1x256, .i32⟩
  | 122 => ⟨S_, .i32⟩
  | 123 => ⟨S4x1x256, .i32⟩
  | 124 => ⟨S4x1x256, .i1⟩
  | 125 => ⟨S1x128x256, .i1⟩
  | 126 => ⟨S4x128x256, .i1⟩
  | 127 => ⟨S4x128x256, .i1⟩
  | _ => ⟨S4x8192x4096, .f32⟩

abbrev hbmTy0_2 (i : Nat) : BufTy := match i % 128 with
  | 0 => ⟨S4x128x256, .i1⟩
  | 1 => ⟨S_, .f32⟩
  | 2 => ⟨S_, .f32⟩
  | 3 => ⟨S64x16x4x128x256, .i1⟩
  | 4 => ⟨S64x16x4x128x256, .f32⟩
  | 5 => ⟨S64x16x4x128x256, .f32⟩
  | 6 => ⟨S_, .f32⟩
  | 7 => ⟨S64x16x4x128, .f32⟩
  | 8 => ⟨S64x16x4x128x1, .f32⟩
  | 9 => ⟨S64x16x4x128x256, .f32⟩
  | 10 => ⟨S64x16x4x128x256, .f32⟩
  | 11 => ⟨S64x16x4x128x256, .f32⟩
  | 12 => ⟨S_, .f32⟩
  | 13 => ⟨S64x16x4x128, .f32⟩
  | 14 => ⟨S64x16x4x128x64, .f32⟩
  | 15 => ⟨S64x16x512x64, .f32⟩
  | 16 => ⟨S64x16x512, .f32⟩
  | 17 => ⟨S64x16x512, .f32⟩
  | 18 => ⟨S4x16x16x512x64, .f32⟩
  | 19 => ⟨S4x512x16x16x64, .f32⟩
  | 20 => ⟨S4x8192x16x64, .f32⟩
  | 21 => ⟨S4x16x16x512, .f32⟩
  | 22 => ⟨S4x512x16x16, .f32⟩
  | 23 => ⟨S4x8192x16, .f32⟩
  | 24 => ⟨S4x16x16x512, .f32⟩
  | 25 => ⟨S4x512x16x16, .f32⟩
  | 26 => ⟨S4x8192x16, .f32⟩
  | 27 => ⟨S1x4x8192x16, .f32⟩
  | 28 => ⟨S1x4x8192x16, .f32⟩
  | 29 => ⟨S1x4x8192x16, .f32⟩
  | 30 => ⟨S3x4x8192x16, .f32⟩
  | 31 => ⟨S_, .f32⟩
  | 32 => ⟨S4x8192x16, .f32⟩
  | 33 => ⟨S1x4x8192x16, .f32⟩
  | 34 => ⟨S3x4x8192x16, .f32⟩
  | 35 => ⟨S3x4x8192x16, .f32⟩
  | 36 => ⟨S3x4x8192x16, .f32⟩
  | 37 => ⟨S1x4x8192x16, .f32⟩
  | 38 => ⟨S4x8192x16, .f32⟩
  | 39 => ⟨S4x8192x16x1, .f32⟩
  | 40 => ⟨S4x8192x16x64, .f32⟩
  | 41 => ⟨S4x8192x16x64, .f32⟩
  | 42 => ⟨S_, .f32⟩
  | 43 => ⟨S4x8192x16x64, .f32⟩
  | 44 => ⟨S4x8192x16x64, .f32⟩
  | 45 => ⟨S1x4x8192x16, .f32⟩
  | 46 => ⟨S4x8192x16, .f32⟩
  | 47 => ⟨S4x8192x16x1, .f32⟩
  | 48 => ⟨S4x8192x16x64, .f32⟩
  | 49 => ⟨S4x8192x16x64, .f32⟩
  | 50 => ⟨S4x8192x16x64, .f32⟩
  | 51 => ⟨S1x4x8192x16, .f32⟩
  | 52 => ⟨S4x8192x16, .f32⟩
  | 53 => ⟨S4x8192x16x1, .f32⟩
  | 54 => ⟨S4x8192x16x64, .f32⟩
  | 55 => ⟨S4x8192x16x64, .f32⟩
  | 56 => ⟨S4x8192x16x64, .f32⟩
  | 57 => ⟨S1x4x8192x16, .f32⟩
  | 58 => ⟨S4x8192x16, .f32⟩
  | 59 => ⟨S4x8192x16, .f32⟩
  | 60 => ⟨S_, .f32⟩
  | 61 => ⟨S4x8192x16, .f32⟩
  | 62 => ⟨S4x8192x16, .f32⟩
  | 63 => ⟨S1x4x8192x16, .f32⟩
  | 64 => ⟨S4x8192x16, .f32⟩
  | 65 => ⟨S4x8192x16, .f32⟩
  | 66 => ⟨S4x8192x16, .f32⟩
  | 67 => ⟨S1x4x8192x16, .f32⟩
  | 68 => ⟨S4x8192x16, .f32⟩
  | 69 => ⟨S4x8192x16, .f32⟩
  | 70 => ⟨S4x8192x16, .f32⟩
  | 71 => ⟨S4x8192x16x1, .f32⟩
  | 72 => ⟨S4x8192x16x64, .f32⟩
  | 73 => ⟨S4x8192x16x64, .f32⟩
  | 74 => ⟨S4x8192x1024, .f32⟩
  | _ => ⟨S4x8192x4096, .f32⟩

abbrev hbmTy (i : Nat) : BufTy := match i / 128 with
  | 0 => hbmTy0_0 i
  | 1 => hbmTy0_1 i
  | 2 => hbmTy0_2 i
  | _ => ⟨S4x8192x4096, .f32⟩

abbrev bufTy : (tb : Table) → Fin (tcTables nBuf tb) → BufTy
  | .hbm, ⟨i, _⟩ => hbmTy i
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_v17 : Ref sig .tc := ⟨.hbm, 19, rfl⟩
abbrev main_cst_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_cst_1 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_c : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_c_2 : Ref sig .tc := ⟨.hbm, 49, rfl⟩
abbrev main_v44 : Ref sig .tc := ⟨.hbm, 50, rfl⟩
abbrev main_v45 : Ref sig .tc := ⟨.hbm, 51, rfl⟩
abbrev main_c_3 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_c_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c_5 : Ref sig .tc := ⟨.hbm, 63, rfl⟩
abbrev main_v55 : Ref sig .tc := ⟨.hbm, 64, rfl⟩
abbrev main_v56 : Ref sig .tc := ⟨.hbm, 65, rfl⟩
abbrev main_c_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_7 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_10 : Ref sig .tc := ⟨.hbm, 109, rfl⟩
abbrev main_v93 : Ref sig .tc := ⟨.hbm, 110, rfl⟩
abbrev main_v94 : Ref sig .tc := ⟨.hbm, 111, rfl⟩
abbrev main_cst_11 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_12 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_c_13 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_c_14 : Ref sig .tc := ⟨.hbm, 141, rfl⟩
abbrev main_v121 : Ref sig .tc := ⟨.hbm, 142, rfl⟩
abbrev main_v122 : Ref sig .tc := ⟨.hbm, 143, rfl⟩
abbrev main_c_15 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_c_16 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_c_17 : Ref sig .tc := ⟨.hbm, 155, rfl⟩
abbrev main_v132 : Ref sig .tc := ⟨.hbm, 156, rfl⟩
abbrev main_v133 : Ref sig .tc := ⟨.hbm, 157, rfl⟩
abbrev main_c_18 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_19 : Ref sig .tc := ⟨.hbm, 165, rfl⟩
abbrev main_call1_v0 : Ref sig .tc := ⟨.hbm, 166, rfl⟩
abbrev main_call1_v1 : Ref sig .tc := ⟨.hbm, 167, rfl⟩
abbrev main_call1_v2 : Ref sig .tc := ⟨.hbm, 168, rfl⟩
abbrev main_v140 : Ref sig .tc := ⟨.hbm, 169, rfl⟩
abbrev main_cst_20 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_21 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_cst_22 : Ref sig .tc := ⟨.hbm, 201, rfl⟩
abbrev main_v170 : Ref sig .tc := ⟨.hbm, 202, rfl⟩
abbrev main_v171 : Ref sig .tc := ⟨.hbm, 203, rfl⟩
abbrev main_cst_23 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_cst_24 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_c_25 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_c_26 : Ref sig .tc := ⟨.hbm, 233, rfl⟩
abbrev main_v198 : Ref sig .tc := ⟨.hbm, 234, rfl⟩
abbrev main_v199 : Ref sig .tc := ⟨.hbm, 235, rfl⟩
abbrev main_c_27 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_c_28 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_c_29 : Ref sig .tc := ⟨.hbm, 247, rfl⟩
abbrev main_v209 : Ref sig .tc := ⟨.hbm, 248, rfl⟩
abbrev main_v210 : Ref sig .tc := ⟨.hbm, 249, rfl⟩
abbrev main_c_30 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_cst_31 : Ref sig .tc := ⟨.hbm, 257, rfl⟩
abbrev main_call2_v0 : Ref sig .tc := ⟨.hbm, 258, rfl⟩
abbrev main_call2_v1 : Ref sig .tc := ⟨.hbm, 259, rfl⟩
abbrev main_call2_v2 : Ref sig .tc := ⟨.hbm, 260, rfl⟩
abbrev main_v217 : Ref sig .tc := ⟨.hbm, 261, rfl⟩
abbrev main_cst_32 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_cst_33 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_cst_34 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_cst_35 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_cst_36 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 19
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S_, .i32⟩
  | .hbm, ⟨6, _⟩ => ⟨S_, .f32⟩
  | .hbm, ⟨7, _⟩ => ⟨S2048x5632, .f32⟩
  | .hbm, ⟨8, _⟩ => ⟨S2048x5632, .bf16⟩
  | .hbm, ⟨9, _⟩ => ⟨S_, .i32⟩
  | .hbm, ⟨10, _⟩ => ⟨S_, .f32⟩
  | .hbm, ⟨11, _⟩ => ⟨S2048x5632, .f32⟩
  | .hbm, ⟨12, _⟩ => ⟨S2048x5632, .bf16⟩
  | .hbm, ⟨13, _⟩ => ⟨S_, .i32⟩
  | .hbm, ⟨14, _⟩ => ⟨S_, .f32⟩
  | .hbm, ⟨15, _⟩ => ⟨S5632x2048, .f32⟩
  | .hbm, ⟨16, _⟩ => ⟨S5632x2048, .bf16⟩
  | .hbm, ⟨17, _⟩ => ⟨S1x2048, .f32⟩
  | .hbm, ⟨18, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c0_i32_10 : BitVec 32 := 0#32
  let v17 : BitVec 1 := Scalar.cmpi .eq arg1 c0_i32_10
  let v18 : BitVec 32 := Scalar.extui v17
  let c0_i32_11 : BitVec 32 := 0#32
  let v19 : BitVec 1 := Scalar.cmpi .ne v18 c0_i32_11
  v19

def k0_cond3 (i : grid0.Coords) : BitVec 1 :=
  let arg1 : BitVec 32 := BitVec.ofNat 32 (i 1).val
  let c0_i32_12 : BitVec 32 := 0#32
  let v20 : BitVec 1 := Scalar.cmpi .sgt arg1 c0_i32_12
  let v21 : BitVec 32 := Scalar.extui v20
  let c0_i32_13 : BitVec 32 := 0#32
  let v22 : BitVec 1 := Scalar.cmpi .ne v21 c0_i32_13
  v22

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x2048 : Shape := ⟨2, ![32768, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5504 : Shape := ⟨2, ![32768, 5504]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x5504, .f32⟩
  | .hbm, ⟨22, _⟩ => ⟨S32768x5504, .f32⟩
  | .hbm, ⟨23, _⟩ => ⟨S32768x5504, .f32⟩
  | .hbm, ⟨24, _⟩ => ⟨S_, .f32⟩
  | .hbm, ⟨25, _⟩ => ⟨S32768x5504, .f32⟩
  | .hbm, ⟨26, _⟩ => ⟨S32768x5504, .f32⟩
  | .hbm, ⟨27, _⟩ => ⟨S_, .f32⟩
  | .hbm, ⟨28, _⟩ => ⟨S32768x5504, .f32⟩
  | .hbm, ⟨29, _⟩ => ⟨S32768x5504, .f32⟩
  | .hbm, ⟨30, _⟩ => ⟨S32768x5504, .f32⟩
  | .hbm, ⟨31, _⟩ => ⟨S32768x5504, .f32⟩
  | .hbm, ⟨32, _⟩ => ⟨S32768x5504, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S32768x2048 : Shape := ⟨2, ![32768, 2048]⟩
abbrev S2048 : Shape := ⟨1, ![2048]⟩
abbrev S2048x4096 : Shape := ⟨2, ![2048, 4096]⟩
abbrev S1x2048 : Shape := ⟨2, ![1, 2048]⟩
abbrev S32768x4096 : Shape := ⟨2, ![32768, 4096]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x4096, .f32⟩
  | .hbm, ⟨3, _⟩ => ⟨S2048x4096, .bf16⟩
  | .hbm, ⟨4, _⟩ => ⟨S1x2048, .f32⟩
  | .hbm, ⟨5, _⟩ => ⟨S32768x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32768x2048 : Shape := ⟨2, ![32768, 2048]⟩
abbrev S2048 : Shape := ⟨1, ![2048]⟩
abbrev S2048x4096 : Shape := ⟨2, ![2048, 4096]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x4096 : Shape := ⟨2, ![32768, 4096]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x4096, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x4096, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S32768x1024 : Shape := ⟨2, ![32768, 1024]⟩
abbrev S32768x2048 : Shape := ⟨2, ![32768, 2048]⟩
abbrev S1024 : Shape := ⟨1, ![1024]⟩
abbrev S1024x1024 : Shape := ⟨2, ![1024, 1024]⟩
abbrev S2048x2048 : Shape := ⟨2, ![2048, 2048]⟩
abbrev S1024x2048 : Shape := ⟨2, ![1024, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x2048, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2048x2048, .f32⟩
  | .hbm, ⟨8, _⟩ => ⟨S2048x2048, .bf16⟩
  | .hbm, ⟨9, _⟩ => ⟨S1024x1024, .bf16⟩
  | .hbm, ⟨10, _⟩ => ⟨S1024x2048, .bf16⟩
  | .hbm, ⟨11, _⟩ => ⟨S1024x2048, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x2048, .bf16⟩
  | .local _ .vmem, ⟨11, _⟩ => ⟨S1024x2048, .bf16⟩
  | .local _ .vmem, ⟨12, _⟩ => ⟨S512x2048, .f32⟩
  | .local _ .vmem, ⟨13, _⟩ => ⟨S512x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S32768x1024 : Shape := ⟨2, ![32768, 1024]⟩
abbrev S32768x2048 : Shape := ⟨2, ![32768, 2048]⟩
abbrev S1024 : Shape := ⟨1, ![1024]⟩
abbrev S1024x1024 : Shape := ⟨2, ![1024, 1024]⟩
abbrev S2048x2048 : Shape := ⟨2, ![2048, 2048]⟩
abbrev S1x1024 : Shape := ⟨2, ![1, 1024]⟩
abbrev S_ : Shape := ⟨0, ![]⟩
abbrev S32768 : Shape := ⟨1, ![32768]⟩
abbrev S32768x1 : Shape := ⟨2, ![32768, 1]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x2048, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2048x2048, .f32⟩
  | .hbm, ⟨8, _⟩ => ⟨S32768x1024, .f32⟩
  | .hbm, ⟨9, _⟩ => ⟨S1x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S32768x2048, .f32⟩
  | .hbm, ⟨54, _⟩ => ⟨S32768x2048, .f32⟩
  | .hbm, ⟨55, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel5.lean ====
abbrev S32768x2048 : Shape := ⟨2, ![32768, 2048]⟩
abbrev S32768x256 : Shape := ⟨2, ![32768, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048x2048, .bf16⟩
  | .hbm, ⟨7, _⟩ => ⟨S256x2048, .bf16⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x2048 : Shape := ⟨2, ![32768, 2048]⟩
abbrev S32768x256 : Shape := ⟨2, ![32768, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x2048, .f32⟩
  | .hbm, ⟨46, _⟩ => ⟨S32768x2048, .f32⟩
  | .hbm, ⟨47, _⟩ => ⟨S1x2048, .f32⟩
  | .hbm, ⟨48, _⟩ => ⟨S32768x2048, .f32⟩
  | .hbm, ⟨49, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel6.lean ====
abbrev S4x8192x4096 : Shape := ⟨3, ![4, 8192, 4096]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S64x1 : Shape := ⟨2, ![64, 1]⟩
abbrev S_ : Shape := ⟨0, ![]⟩
abbrev S64x64x1 : Shape := ⟨3, ![64, 64, 1]⟩
abbrev S17 : Shape := ⟨1, ![17]⟩
abbrev S17x1x1 : Shape := ⟨3, ![17, 1, 1]⟩
abbrev S1x64x64 : Shape := ⟨3, ![1, 64, 64]⟩
abbrev S17x64x64 : Shape := ⟨3, ![17, 64, 64]⟩
abbrev S1x64x16x64 : Shape := ⟨4, ![1, 64, 16, 64]⟩
abbrev S17x64x1x64 : Shape := ⟨4, ![17, 64, 1, 64]⟩
abbrev S17x64x16x64 : Shape := ⟨4, ![17, 64, 16, 64]⟩
abbrev S16x64x16x64 : Shape := ⟨4, ![16, 64, 16, 64]⟩
abbrev S64x16x16x16 : Shape := ⟨4, ![64, 16, 16, 16]⟩
abbrev S16x64x16x16 : Shape := ⟨4, ![16, 64, 16, 16]⟩
abbrev S64x16 : Shape := ⟨2, ![64, 16]⟩
abbrev S64x16x1 : Shape := ⟨3, ![64, 16, 1]⟩
abbrev S16x16 : Shape := ⟨2, ![16, 16]⟩
abbrev S1x16x16 : Shape := ⟨3, ![1, 16, 16]⟩
abbrev S64x16x16 : Shape := ⟨3, ![64, 16, 16]⟩
abbrev S1 : Shape := ⟨1, ![1]⟩
abbrev S8x8 : Shape := ⟨2, ![8, 8]⟩
abbrev S16 : Shape := ⟨1, ![16]⟩
abbrev S1x16 : Shape := ⟨2, ![1, 16]⟩
abbrev S16x1 : Shape := ⟨2, ![16, 1]⟩
abbrev S16x16x1x1x1 : Shape := ⟨5, ![16, 16, 1, 1, 1]⟩
abbrev S16x16x1 : Shape := ⟨3, ![16, 16, 1]⟩
abbrev S16x16x64x16x16 : Shape := ⟨5, ![16, 16, 64, 16, 16]⟩
abbrev S16x16x8x8x16x16 : Shape := ⟨6, ![16, 16, 8, 8, 16, 16]⟩
abbrev S8x16x8x16x16x16 : Shape := ⟨6, ![8, 16, 8, 16, 16, 16]⟩
abbrev S8x16x8x16x16x1x16 : Shape := ⟨7, ![8, 16, 8, 16, 16, 1, 16]⟩
abbrev S1x1x8x1x1x8x1 : Shape := ⟨7, ![1, 1, 8, 1, 1, 8, 1]⟩
abbrev S8x16x8x16x16x8x16 : Shape := ⟨7, ![8, 16, 8, 16, 16, 8, 16]⟩
abbrev S8x2048x2048 : Shape := ⟨3, ![8, 2048, 2048]⟩
abbrev S16x64x64 : Shape := ⟨3, ![16, 64, 64]⟩
abbrev S16x64x64x1 : Shape := ⟨4, ![16, 64, 64, 1]⟩
abbrev S1x64x64x16 : Shape := ⟨4, ![1, 64, 64, 16]⟩
abbrev S16x64x64x16 : Shape := ⟨4, ![16, 64, 64, 16]⟩
abbrev S1x16x64x64x16 : Shape := ⟨5, ![1, 16, 64, 64, 16]⟩
abbrev S2x16x64x64x16 : Shape := ⟨5, ![2, 16, 64, 64, 16]⟩
abbrev S2x16x8x8x64x16 : Shape := ⟨6, ![2, 16, 8, 8, 64, 16]⟩
abbrev S8x16x8x16x2x64 : Shape := ⟨6, ![8, 16, 8, 16, 2, 64]⟩
abbrev S8x16x8x16x2x1x64 : Shape := ⟨7, ![8, 16, 8, 16, 2, 1, 64]⟩
abbrev S8x16x8x16x2x8x64 : Shape := ⟨7, ![8, 16, 8, 16, 2, 8, 64]⟩
abbrev S8x2048x1024 : Shape := ⟨3, ![8, 2048, 1024]⟩
abbrev S1x16x64x16x64 : Shape := ⟨5, ![1, 16, 64, 16, 64]⟩
abbrev S2x16x64x16x64 : Shape := ⟨5, ![2, 16, 64, 16, 64]⟩
abbrev S2x16x8x8x16x64 : Shape := ⟨6, ![2, 16, 8, 8, 16, 64]⟩
abbrev S8x2x8x64x16x16 : Shape := ⟨6, ![8, 2, 8, 64, 16, 16]⟩
abbrev S8x2x8x64x16x1x16 : Shape := ⟨7, ![8, 2, 8, 64, 16, 1, 16]⟩
abbrev S8x2x8x64x16x8x16 : Shape := ⟨7, ![8, 2, 8, 64, 16, 8, 16]⟩
abbrev S8x1024x2048 : Shape := ⟨3, ![8, 1024, 2048]⟩
abbrev S9 : Shape := ⟨1, ![9]⟩
abbrev S9x1x1 : Shape := ⟨3, ![9, 1, 1]⟩
abbrev S9x64x64 : Shape := ⟨3, ![9, 64, 64]⟩
abbrev S9x8x512 : Shape := ⟨3, ![9, 8, 512]⟩
abbrev S8x9x512 : Shape := ⟨3, ![8, 9, 512]⟩
abbrev S8x16x512 : Shape := ⟨3, ![8, 16, 512]⟩
abbrev S4x8192x1024 : Shape := ⟨3, ![4, 8192, 1024]⟩
abbrev S1x8192x128 : Shape := ⟨3, ![1, 8192, 128]⟩
abbrev S1x2048x2048 : Shape := ⟨3, ![1, 2048, 2048]⟩
abbrev S1x2048x1024 : Shape := ⟨3, ![1, 2048, 1024]⟩
abbrev S1x1024x2048 : Shape := ⟨3, ![1, 1024, 2048]⟩
abbrev S1x16x512 : Shape := ⟨3, ![1, 16, 512]⟩
abbrev S1x512x128 : Shape := ⟨3, ![1, 512, 128]⟩
abbrev S512x128 : Shape := ⟨2, ![512, 128]⟩
abbrev S512x2048 : Shape := ⟨2, ![512, 2048]⟩
abbrev S2048x2048 : Shape := ⟨2, ![2048, 2048]⟩
abbrev S2048x1024 : Shape := ⟨2, ![2048, 1024]⟩
abbrev S512x1024 : Shape := ⟨2, ![512, 1024]⟩
abbrev S512x512 : Shape := ⟨2, ![512, 512]⟩
abbrev S1x1x512 : Shape := ⟨3, ![1, 1, 512]⟩
abbrev S1x512 : Shape := ⟨2, ![1, 512]⟩
abbrev S1024x2048 : Shape := ⟨2, ![1024, 2048]⟩

abbrev nBuf : Space → Nat
  | .hbm => 345
  | .vmem => 9
  | .smem => 0
  | _ => 0

abbrev hbmTy0_0 (i : Nat) : BufTy := match i % 128 with
  | 0 => ⟨S4x8192x4096, .f32⟩
  | 1 => ⟨S64x64, .f32⟩
  | 2 => ⟨S64x64, .f32⟩
  | 3 => ⟨S64, .f32⟩
  | 4 => ⟨S64x64x16, .f32⟩
  | 5 => ⟨S64x64x16, .f32⟩
  | 6 => ⟨S64x16x64, .f32⟩
  | 7 => ⟨S64x16x64, .f32⟩
  | 8 => ⟨S1024, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64x1, .f32⟩
  | 37 => ⟨S64x64x16, .f32⟩
  | 38 => ⟨S64x64x16, .f32⟩
  | 39 => ⟨S64x64x1, .f32⟩
  | 40 => ⟨S64x64x16, .f32⟩
  | 41 => ⟨S64x64x16, .f32⟩
  | 42 => ⟨S64x64x16, .f32⟩
  | 43 => ⟨S64x64x1, .f32⟩
  | 44 => ⟨S64x64x16, .f32⟩
  | 45 => ⟨S64x64x16, .f32⟩
  | 46 => ⟨S64x64x1, .f32⟩
  | 47 => ⟨S64x64x16, .f32⟩
  | 48 => ⟨S64x64x16, .f32⟩
  | 49 => ⟨S64x64x16, .f32⟩
  | 50 => ⟨S17, .i32⟩
  | 51 => ⟨S17, .f32⟩
  | 52 => ⟨S17x1x1, .f32⟩
  | 53 => ⟨S64x64, .f32⟩
  | 54 => ⟨S64x64, .f32⟩
  | 55 => ⟨S1x64x64, .f32⟩
  | 56 => ⟨S17x64x64, .f32⟩
  | 57 => ⟨S17x64x64, .f32⟩
  | 58 => ⟨S17x64x64, .f32⟩
  | 59 => ⟨S17x64x64, .f32⟩
  | 60 => ⟨S64x64, .f32⟩
  | 61 => ⟨S64x64, .f32⟩
  | 62 => ⟨S1x64x64, .f32⟩
  | 63 => ⟨S17x64x64, .f32⟩
  | 64 => ⟨S17x64x64, .f32⟩
  | 65 => ⟨S17x64x64, .f32⟩
  | 66 => ⟨S17x64x64, .f32⟩
  | 67 => ⟨S17x64x64, .f32⟩
  | 68 => ⟨S17x64x64, .f32⟩
  | 69 => ⟨S17x64x64, .f32⟩
  | 70 => ⟨S1x64x16x64, .f32⟩
  | 71 => ⟨S17x64x1x64, .f32⟩
  | 72 => ⟨S17x64x16x64, .f32⟩
  | 73 => ⟨S17x64x16x64, .f32⟩
  | 74 => ⟨S17x64x16x64, .f32⟩
  | 75 => ⟨S1x64x16x64, .f32⟩
  | 76 => ⟨S17x64x1x64, .f32⟩
  | 77 => ⟨S17x64x16x64, .f32⟩
  | 78 => ⟨S17x64x16x64, .f32⟩
  | 79 => ⟨S17x64x16x64, .f32⟩
  | 80 => ⟨S17x64x16x64, .f32⟩
  | 81 => ⟨S1x64x16x64, .f32⟩
  | 82 => ⟨S17x64x1x64, .f32⟩
  | 83 => ⟨S17x64x16x64, .f32⟩
  | 84 => ⟨S17x64x16x64, .f32⟩
  | 85 => ⟨S17x64x16x64, .f32⟩
  | 86 => ⟨S1x64x16x64, .f32⟩
  | 87 => ⟨S17x64x1x64, .f32⟩
  | 88 => ⟨S17x64x16x64, .f32⟩
  | 89 => ⟨S17x64x16x64, .f32⟩
  | 90 => ⟨S17x64x16x64, .f32⟩
  | 91 => ⟨S17x64x16x64, .f32⟩
  | 92 => ⟨S16x64x16x64, .f32⟩
  | 93 => ⟨S64x16x16x16, .f32⟩
  | 94 => ⟨S16x64x16x16, .f32⟩
  | 95 => ⟨S16x64x16x64, .f32⟩
  | 96 => ⟨S64x16x16x16, .f32⟩
  | 97 => ⟨S16x64x16x16, .f32⟩
  | 98 => ⟨S16x64x16x16, .f32⟩
  | 99 => ⟨S64x16, .f32⟩
  | 100 => ⟨S64x16x1, .f32⟩
  | 101 => ⟨S16x16, .i32⟩
  | 102 => ⟨S16x16, .i32⟩
  | 103 => ⟨S_, .i32⟩
  | 104 => ⟨S16x16, .i32⟩
  | 105 => ⟨S16x16, .i32⟩
  | 106 => ⟨S16x16, .i1⟩
  | 107 => ⟨S16x16, .f32⟩
  | 108 => ⟨S1x16x16, .f32⟩
  | 109 => ⟨S64x16x16, .f32⟩
  | 110 => ⟨S64x16x16, .f32⟩
  | 111 => ⟨S64x16x16, .f32⟩
  | 112 => ⟨S_, .i32⟩
  | 113 => ⟨S1, .i32⟩
  | 114 => ⟨S16x64x16x16, .f32⟩
  | 115 => ⟨S8x8, .i32⟩
  | 116 => ⟨S8x8, .i32⟩
  | 117 => ⟨S_, .i32⟩
  | 118 => ⟨S8x8, .i32⟩
  | 119 => ⟨S8x8, .i32⟩
  | 120 => ⟨S8x8, .i1⟩
  | 121 => ⟨S8x8, .f32⟩
  | 122 => ⟨S16, .i32⟩
  | 123 => ⟨S1x16, .i32⟩
  | 124 => ⟨S16, .i32⟩
  | 125 => ⟨S16x1, .i32⟩
  | 126 => ⟨S16x16, .i32⟩
  | 127 => ⟨S16x16, .i32⟩
  | _ => ⟨S4x8192x4096, .f32⟩

abbrev hbmTy0_1 (i : Nat) : BufTy := match i % 128 with
  | 0 => ⟨S16x16, .i32⟩
  | 1 => ⟨S_, .i32⟩
  | 2 => ⟨S16x16, .i32⟩
  | 3 => ⟨S16x16, .i1⟩
  | 4 => ⟨S16x16x1x1x1, .i1⟩
  | 5 => ⟨S_, .i32⟩
  | 6 => ⟨S_, .i32⟩
  | 7 => ⟨S_, .i32⟩
  | 8 => ⟨S16x16, .i32⟩
  | 9 => ⟨S16x16, .i32⟩
  | 10 => ⟨S_, .i32⟩
  | 11 => ⟨S16x16, .i32⟩
  | 12 => ⟨S16x16, .i32⟩
  | 13 => ⟨S_, .i32⟩
  | 14 => ⟨S16x16, .i32⟩
  | 15 => ⟨S16x16, .i1⟩
  | 16 => ⟨S_, .i32⟩
  | 17 => ⟨S16x16, .i32⟩
  | 18 => ⟨S16x16, .i32⟩
  | 19 => ⟨S16x16, .i32⟩
  | 20 => ⟨S16x16x1, .i32⟩
  | 21 => ⟨S16x16x64x16x16, .f32⟩
  | 22 => ⟨S_, .f32⟩
  | 23 => ⟨S_, .f32⟩
  | 24 => ⟨S16x16x64x16x16, .i1⟩
  | 25 => ⟨S16x16x64x16x16, .f32⟩
  | 26 => ⟨S16x16x64x16x16, .f32⟩
  | 27 => ⟨S16x16x8x8x16x16, .f32⟩
  | 28 => ⟨S8x16x8x16x16x16, .f32⟩
  | 29 => ⟨S8x16x8x16x16x1x16, .f32⟩
  | 30 => ⟨S1x1x8x1x1x8x1, .f32⟩
  | 31 => ⟨S8x16x8x16x16x8x16, .f32⟩
  | 32 => ⟨S8x16x8x16x16x8x16, .f32⟩
  | 33 => ⟨S8x16x8x16x16x8x16, .f32⟩
  | 34 => ⟨S8x2048x2048, .f32⟩
  | 35 => ⟨S16x64x64, .f32⟩
  | 36 => ⟨S16x64x64, .f32⟩
  | 37 => ⟨S16x64x64, .f32⟩
  | 38 => ⟨S16x64x64, .f32⟩
  | 39 => ⟨S16x64x64x1, .f32⟩
  | 40 => ⟨S1x64x64x16, .f32⟩
  | 41 => ⟨S16x64x64x16, .f32⟩
  | 42 => ⟨S16x64x64x16, .f32⟩
  | 43 => ⟨S16x64x64x16, .f32⟩
  | 44 => ⟨S16x64x64x1, .f32⟩
  | 45 => ⟨S1x64x64x16, .f32⟩
  | 46 => ⟨S16x64x64x16, .f32⟩
  | 47 => ⟨S16x64x64x16, .f32⟩
  | 48 => ⟨S16x64x64x16, .f32⟩
  | 49 => ⟨S16x64x64x16, .f32⟩
  | 50 => ⟨S16x64x64x1, .f32⟩
  | 51 => ⟨S1x64x64x16, .f32⟩
  | 52 => ⟨S16x64x64x16, .f32⟩
  | 53 => ⟨S16x64x64x16, .f32⟩
  | 54 => ⟨S16x64x64x16, .f32⟩
  | 55 => ⟨S16x64x64x1, .f32⟩
  | 56 => ⟨S1x64x64x16, .f32⟩
  | 57 => ⟨S16x64x64x16, .f32⟩
  | 58 => ⟨S16x64x64x16, .f32⟩
  | 59 => ⟨S16x64x64x16, .f32⟩
  | 60 => ⟨S16x64x64x16, .f32⟩
  | 61 => ⟨S1x16x64x64x16, .f32⟩
  | 62 => ⟨S1x16x64x64x16, .f32⟩
  | 63 => ⟨S2x16x64x64x16, .f32⟩
  | 64 => ⟨S2x16x8x8x64x16, .f32⟩
  | 65 => ⟨S8x16x8x16x2x64, .f32⟩
  | 66 => ⟨S8x16x8x16x2x1x64, .f32⟩
  | 67 => ⟨S1x1x8x1x1x8x1, .f32⟩
  | 68 => ⟨S8x16x8x16x2x8x64, .f32⟩
  | 69 => ⟨S8x16x8x16x2x8x64, .f32⟩
  | 70 => ⟨S8x16x8x16x2x8x64, .f32⟩
  | 71 => ⟨S8x2048x1024, .f32⟩
  | 72 => ⟨S16x64x16x64, .f32⟩
  | 73 => ⟨S16x64x16x64, .f32⟩
  | 74 => ⟨S16x64x16x64, .f32⟩
  | 75 => ⟨S1x16x64x16x64, .f32⟩
  | 76 => ⟨S1x16x64x16x64, .f32⟩
  | 77 => ⟨S2x16x64x16x64, .f32⟩
  | 78 => ⟨S2x16x8x8x16x64, .f32⟩
  | 79 => ⟨S8x2x8x64x16x16, .f32⟩
  | 80 => ⟨S8x2x8x64x16x1x16, .f32⟩
  | 81 => ⟨S1x1x8x1x1x8x1, .f32⟩
  | 82 => ⟨S8x2x8x64x16x8x16, .f32⟩
  | 83 => ⟨S8x2x8x64x16x8x16, .f32⟩
  | 84 => ⟨S8x2x8x64x16x8x16, .f32⟩
  | 85 => ⟨S8x1024x2048, .f32⟩
  | 86 => ⟨S9, .i32⟩
  | 87 => ⟨S_, .i32⟩
  | 88 => ⟨S_, .i32⟩
  | 89 => ⟨S_, .i1⟩
  | 90 => ⟨S_, .i32⟩
  | 91 => ⟨S9, .i32⟩
  | 92 => ⟨S9, .i1⟩
  | 93 => ⟨S9, .i1⟩
  | 94 => ⟨S9, .i1⟩
  | 95 => ⟨S_, .i32⟩
  | 96 => ⟨S_, .i32⟩
  | 97 => ⟨S9, .i32⟩
  | 98 => ⟨S9, .i32⟩
  | 99 => ⟨S9, .i32⟩
  | 100 => ⟨S_, .i32⟩
  | 101 => ⟨S9, .i32⟩
  | 102 => ⟨S9, .i32⟩
  | 103 => ⟨S_, .i32⟩
  | 104 => ⟨S9, .i32⟩
  | 105 => ⟨S9, .i32⟩
  | 106 => ⟨S_, .i32⟩
  | 107 => ⟨S9, .i32⟩
  | 108 => ⟨S9, .i1⟩
  | 109 => ⟨S9, .i32⟩
  | 110 => ⟨S_, .i32⟩
  | 111 => ⟨S_, .i32⟩
  | 112 => ⟨S_, .i32⟩
  | 113 => ⟨S_, .i32⟩
  | 114 => ⟨S9, .i32⟩
  | 115 => ⟨S9, .i32⟩
  | 116 => ⟨S_, .i32⟩
  | 117 => ⟨S9, .i32⟩
  | 118 => ⟨S9, .i32⟩
  | 119 => ⟨S9, .i32⟩
  | 120 => ⟨S9, .i32⟩
  | 121 => ⟨S_, .i32⟩
  | 122 => ⟨S9, .i32⟩
  | 123 => ⟨S9, .i1⟩
  | 124 => ⟨S9, .i32⟩
  | 125 => ⟨S_, .i32⟩
  | 126 => ⟨S_, .i32⟩
  | 127 => ⟨S9, .i32⟩
  | _ => ⟨S4x8192x4096, .f32⟩

abbrev hbmTy0_2 (i : Nat) : BufTy := match i % 128 with
  | 0 => ⟨S9, .i32⟩
  | 1 => ⟨S_, .i32⟩
  | 2 => ⟨S9, .i32⟩
  | 3 => ⟨S9, .i32⟩
  | 4 => ⟨S9, .i32⟩
  | 5 => ⟨S9, .i32⟩
  | 6 => ⟨S_, .i32⟩
  | 7 => ⟨S9, .i32⟩
  | 8 => ⟨S9, .i1⟩
  | 9 => ⟨S9, .i32⟩
  | 10 => ⟨S_, .i32⟩
  | 11 => ⟨S_, .i32⟩
  | 12 => ⟨S9, .i32⟩
  | 13 => ⟨S9, .i32⟩
  | 14 => ⟨S_, .i32⟩
  | 15 => ⟨S9, .i32⟩
  | 16 => ⟨S9, .i32⟩
  | 17 => ⟨S9, .i32⟩
  | 18 => ⟨S9, .i32⟩
  | 19 => ⟨S_, .i32⟩
  | 20 => ⟨S9, .i32⟩
  | 21 => ⟨S9, .i1⟩
  | 22 => ⟨S9, .i32⟩
  | 23 => ⟨S_, .i32⟩
  | 24 => ⟨S_, .i32⟩
  | 25 => ⟨S9, .i32⟩
  | 26 => ⟨S9, .i32⟩
  | 27 => ⟨S_, .i32⟩
  | 28 => ⟨S9, .i32⟩
  | 29 => ⟨S9, .i32⟩
  | 30 => ⟨S9, .i32⟩
  | 31 => ⟨S9, .i32⟩
  | 32 => ⟨S_, .i32⟩
  | 33 => ⟨S9, .i32⟩
  | 34 => ⟨S9, .i1⟩
  | 35 => ⟨S9, .i32⟩
  | 36 => ⟨S_, .i32⟩
  | 37 => ⟨S_, .i32⟩
  | 38 => ⟨S9, .i32⟩
  | 39 => ⟨S9, .i32⟩
  | 40 => ⟨S_, .i32⟩
  | 41 => ⟨S9, .i32⟩
  | 42 => ⟨S9, .i32⟩
  | 43 => ⟨S9, .i32⟩
  | 44 => ⟨S9, .i32⟩
  | 45 => ⟨S_, .i32⟩
  | 46 => ⟨S9, .i32⟩
  | 47 => ⟨S9, .i1⟩
  | 48 => ⟨S9, .i32⟩
  | 49 => ⟨S_, .i32⟩
  | 50 => ⟨S_, .i32⟩
  | 51 => ⟨S9, .i32⟩
  | 52 => ⟨S9, .i32⟩
  | 53 => ⟨S_, .i32⟩
  | 54 => ⟨S9, .i32⟩
  | 55 => ⟨S9, .i32⟩
  | 56 => ⟨S9, .f32⟩
  | 57 => ⟨S9x1x1, .f32⟩
  | 58 => ⟨S64x64, .f32⟩
  | 59 => ⟨S64x64, .f32⟩
  | 60 => ⟨S1x64x64, .f32⟩
  | 61 => ⟨S9x64x64, .f32⟩
  | 62 => ⟨S9x64x64, .f32⟩
  | 63 => ⟨S9x64x64, .f32⟩
  | 64 => ⟨S9x64x64, .f32⟩
  | 65 => ⟨S64x64, .f32⟩
  | 66 => ⟨S64x64, .f32⟩
  | 67 => ⟨S1x64x64, .f32⟩
  | 68 => ⟨S9x64x64, .f32⟩
  | 69 => ⟨S9x64x64, .f32⟩
  | 70 => ⟨S9x64x64, .f32⟩
  | 71 => ⟨S9x64x64, .f32⟩
  | 72 => ⟨S9x64x64, .f32⟩
  | 73 => ⟨S9x64x64, .f32⟩
  | 74 => ⟨S9x64x64, .f32⟩
  | 75 => ⟨S9x8x512, .f32⟩
  | 76 => ⟨S8x9x512, .f32⟩
  | 77 => ⟨S_, .i32⟩
  | 78 => ⟨S_, .f32⟩
  | 79 => ⟨S8x16x512, .f32⟩
  | 80 => ⟨S9x8x512, .f32⟩
  | 81 => ⟨S8x9x512, .f32⟩
  | 82 => ⟨S_, .i32⟩
  | 83 => ⟨S_, .f32⟩
  | 84 => ⟨S8x16x512, .f32⟩
  | 85 => ⟨S8x2048x2048, .bf16⟩
  | 86 => ⟨S8x2048x1024, .bf16⟩
  | 87 => ⟨S8x1024x2048, .bf16⟩
  | 88 => ⟨S4x8192x1024, .f32⟩
  | _ => ⟨S4x8192x4096, .f32⟩

abbrev hbmTy (i : Nat) : BufTy := match i / 128 with
  | 0 => hbmTy0_0 i
  | 1 => hbmTy0_1 i
  | 2 => hbmTy0_2 i
  | _ => ⟨S4x8192x4096, .f32⟩

abbrev bufTy : (tb : Table) → Fin (tcTables nBuf tb) → BufTy
  | .hbm, ⟨i, _⟩ => hbmTy i
  | .local _ .vmem, ⟨0, _⟩ => ⟨S1x8192x128, .f32⟩
  | .local _ .vmem, ⟨1, _⟩ => ⟨S1x8192x128, .f32⟩
  | .local _ .vmem, ⟨2, _⟩ => ⟨S1x2048x2048, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x16x512, .f32⟩
  | .local _ .vmem, ⟨6, _⟩ => ⟨S1x16x512, .f32⟩
  | .local _ .vmem, ⟨7, _⟩ => ⟨S1x8192x128, .f32⟩
  | .local _ .vmem, ⟨8, _⟩ => ⟨S1x8192x128, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_c : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_c_0 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_c_1 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_c_2 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_c_3 : Ref sig .tc := ⟨.hbm, 133, rfl⟩
abbrev main_c_4 : Ref sig .tc := ⟨.hbm, 134, rfl⟩
abbrev main_call0_v0 : Ref sig .tc := ⟨.hbm, 135, rfl⟩
abbrev main_call0_v1 : Ref sig .tc := ⟨.hbm, 136, rfl⟩
abbrev main_call0_v2 : Ref sig .tc := ⟨.hbm, 137, rfl⟩
abbrev main_call0_v3 : Ref sig .tc := ⟨.hbm, 138, rfl⟩
abbrev main_call0_v4 : Ref sig .tc := ⟨.hbm, 139, rfl⟩
abbrev main_v119 : Ref sig .tc := ⟨.hbm, 140, rfl⟩
abbrev main_c_5 : Ref sig .tc := ⟨.hbm, 141, rfl⟩
abbrev main_v120 : Ref sig .tc := ⟨.hbm, 142, rfl⟩
abbrev main_v121 : Ref sig .tc := ⟨.hbm, 143, rfl⟩
abbrev main_c_6 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_7 : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_c_8 : Ref sig .tc := ⟨.hbm, 215, rfl⟩
abbrev main_c_9 : Ref sig .tc := ⟨.hbm, 216, rfl⟩
abbrev main_v188 : Ref sig .tc := ⟨.hbm, 217, rfl⟩
abbrev main_c_10 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_c_11 : Ref sig .tc := ⟨.hbm, 223, rfl⟩
abbrev main_c_12 : Ref sig .tc := ⟨.hbm, 224, rfl⟩
abbrev main_call2_v0 : Ref sig .tc := ⟨.hbm, 225, rfl⟩
abbrev main_call2_v1 : Ref sig .tc := ⟨.hbm, 226, rfl⟩
abbrev main_v193 : Ref sig .tc := ⟨.hbm, 227, rfl⟩
abbrev main_c_13 : Ref sig .tc := ⟨.hbm, 228, rfl⟩
abbrev main_v194 : Ref sig .tc := ⟨.hbm, 229, rfl⟩
abbrev main_v195 : Ref sig .tc := ⟨.hbm, 230, rfl⟩
abbrev main_c_14 : Ref sig .tc := ⟨.hbm, 231, rfl⟩
abbrev main_v196 : Ref sig .tc := ⟨.hbm, 232, rfl⟩
abbrev main_v197 : Ref sig .tc := ⟨.hbm, 233, rfl⟩
abbrev main_call3_c : Ref sig .tc := ⟨.hbm, 234, rfl⟩
abbrev main_call3_v0 : Ref sig .tc := ⟨.hbm, 235, rfl⟩
abbrev main_call3_v1 : Ref sig .tc := ⟨.hbm, 236, rfl⟩
abbrev main_v198 : Ref sig .tc := ⟨.hbm, 237, rfl⟩
abbrev main_c_15 : Ref sig .tc := ⟨.hbm, 238, rfl⟩
abbrev main_c_16 : Ref sig .tc := ⟨.hbm, 239, rfl⟩
abbrev main_v199 : Ref sig .tc := ⟨.hbm, 240, rfl⟩
abbrev main_c_17 : Ref sig .tc := ⟨.hbm, 241, rfl⟩
abbrev main_v200 : Ref sig .tc := ⟨.hbm, 242, rfl⟩
abbrev main_v201 : Ref sig .tc := ⟨.hbm, 243, rfl⟩
abbrev main_c_18 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_call4_c : Ref sig .tc := ⟨.hbm, 249, rfl⟩
abbrev main_call4_v0 : Ref sig .tc := ⟨.hbm, 250, rfl⟩
abbrev main_call4_v1 : Ref sig .tc := ⟨.hbm, 251, rfl⟩
abbrev main_v206 : Ref sig .tc := ⟨.hbm, 252, rfl⟩
abbrev main_v207 : Ref sig .tc := ⟨.hbm, 253, rfl⟩
abbrev main_c_19 : Ref sig .tc := ⟨.hbm, 254, rfl⟩
abbrev main_v208 : Ref sig .tc := ⟨.hbm, 255, rfl⟩
abbrev main_v209 : Ref sig .tc := ⟨.hbm, 256, rfl⟩
abbrev main_c_20 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_call5_c : Ref sig .tc := ⟨.hbm, 262, rfl⟩
abbrev main_call5_v0 : Ref sig .tc := ⟨.hbm, 263, rfl⟩
abbrev main_call5_v1 : Ref sig .tc := ⟨.hbm, 264, rfl⟩
abbrev main_v214 : Ref sig .tc := ⟨.hbm, 265, rfl⟩
abbrev main_v215 : Ref sig .tc := ⟨.hbm, 266, rfl⟩
abbrev main_c_21 : Ref sig .tc := ⟨.hbm, 267, rfl⟩
abbrev main_v216 : Ref sig .tc := ⟨.hbm, 268, rfl⟩
abbrev main_v217 : Ref sig .tc := ⟨.hbm, 269, rfl⟩
abbrev main_c_22 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_call6_c : Ref sig .tc := ⟨.hbm, 275, rfl⟩
abbrev main_call6_v0 : Ref sig .tc := ⟨.hbm, 276, rfl⟩
abbrev main_call6_v1 : Ref sig .tc := ⟨.hbm, 277, rfl⟩
abbrev main_v222 : Ref sig .tc := ⟨.hbm, 278, rfl⟩
abbrev main_v223 : Ref sig .tc := ⟨.hbm, 279, rfl⟩
abbrev main_c_23 : Ref sig .tc := ⟨.hbm, 280, rfl⟩
abbrev main_v224 : Ref sig .tc := ⟨.hbm, 281, rfl⟩
abbrev main_v225 : Ref sig .tc := ⟨.hbm, 282, rfl⟩
abbrev main_c_24 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_call7_c : Ref sig .tc := ⟨.hbm, 288, rfl⟩
abbrev main_call7_v0 : Ref sig .tc := ⟨.hbm, 289, rfl⟩
abbrev main_call7_v1 : Ref sig .tc := ⟨.hbm, 290, rfl⟩
abbrev main_v230 : Ref sig .tc := ⟨.hbm, 291, rfl⟩
abbrev main_v231 : Ref sig .tc := ⟨.hbm, 292, rfl⟩
abbrev main_c_25 : Ref sig .tc := ⟨.hbm, 293, rfl⟩
abbrev main_v232 : Ref sig .tc := ⟨.hbm, 294, rfl⟩
abbrev main_v233 : Ref sig .tc := ⟨.hbm, 295, rfl⟩
abbrev main_c_26 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_call8_c : Ref sig .tc := ⟨.hbm, 301, rfl⟩
abbrev main_call8_v0 : Ref sig .tc := ⟨.hbm, 302, rfl⟩
abbrev main_call8_v1 : Ref sig .tc := ⟨.hbm, 303, rfl⟩
abbrev main_v238 : Ref sig .tc := ⟨.hbm, 304, rfl⟩
abbrev main_v239 : Ref sig .tc := ⟨.hbm, 305, rfl⟩
abbrev main_c_27 : Ref sig .tc := ⟨.hbm, 306, rfl⟩
abbrev main_v240 : Ref sig .tc := ⟨.hbm, 307, rfl⟩
abbrev main_v241 : Ref sig .tc := ⟨.hbm, 308, rfl⟩
abbrev main_c_28 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_c_29 : Ref sig .tc := ⟨.hbm, 333, rfl⟩
abbrev main_call9_v0 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_c_30 : Ref sig .tc := ⟨.hbm, 338, rfl⟩
abbrev main_call10_v0 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Ideal1.Trips.lean ====
/- One trip of each of the attention's three counted loops: the pieces it writes into the output, the running
   maxima and the running denominators, found by executing the trip's body at a symbolic trip number. -/
module

public import proofs.«01_k».proof.Proof.Gen.KernelIdeal.Frame
public import proofs.«01_k».proof.Proof.Gen.KernelIdeal.Skeleton

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
/-- A window's buffer: one batch entry's rows of one head pair's lanes. -/
abbrev Blk : Type := Memref sig .tc .vmem S1x8192x128 .f32
/-- A scratch buffer: the running maxima or the running denominators. -/
abbrev Scr : Type := Memref sig .tc .vmem S8192x128 .f32

/-- What a trip holds: the three inputs' buffers, and the three buffers it writes, each at given contents. -/
abbrev Held (c : Dev nD) (q k v o : Blk) (mx dn : Scr)
    (Xq : BufTy.Contents (Elt F) q.view.ty) (Xk : BufTy.Contents (Elt F) k.view.ty) (Xv : BufTy.Contents (Elt F) v.view.ty)
    (fo : BufTy.Contents (Elt F) o.view.ty) (fm : BufTy.Contents (Elt F) mx.view.ty) (fd : BufTy.Contents (Elt F) dn.view.ty) : sProp 𝕄 :=
  iprop((q.view.loc (c : Thread nD τ) ↦[q.view.set]{fullShare} Xq) ∗ (k.view.loc (c : Thread nD τ) ↦[k.view.set]{fullShare} Xk)
    ∗ (v.view.loc (c : Thread nD τ) ↦[v.view.set]{fullShare} Xv) ∗ (o.view.loc (c : Thread nD τ) ↦[o.view.set]{fullShare} fo)
    ∗ (mx.view.loc (c : Thread nD τ) ↦[mx.view.set]{fullShare} fm) ∗ (dn.view.loc (c : Thread nD τ) ↦[dn.view.set]{fullShare} fd))

variable (c : Dev nD) (i : grid0.Coords) (q : Blk) (hq : q.IsWhole) (k : Blk) (hk : k.IsWhole) (v : Blk) (hv : v.IsWhole)
  (o : Blk) (ho : o.IsWhole) (mx : Scr) (hmx : mx.IsWhole) (dn : Scr) (hdn : dn.IsWhole)
  (Xq : BufTy.Contents (Elt F) q.view.ty) (Xk : BufTy.Contents (Elt F) k.view.ty) (Xv : BufTy.Contents (Elt F) v.view.ty)

/-- One trip of the first loop, whatever the three written buffers hold. -/
@[irreducible] def trip1 (u : Fin k0_t1_loop.trips) (fo : BufTy.Contents (Elt F) o.view.ty) (fm : BufTy.Contents (Elt F) mx.view.ty) (fd : BufTy.Contents (Elt F) dn.view.ty) :
    Σ' (Lo : List (View.Piece (Elt F) S1x8192x128 .f32)) (Lm : List (View.Piece (Elt F) S8192x128 .f32)),
      { Ld : List (View.Piece (Elt F) S8192x128 .f32) //
        Held c q k v o mx dn Xq Xk Xv fo fm fd
        ⊢ wp frame (wpE (defs₀ (F := F)) Variants.none (c : Thread nD τ) none) Set.univ
            (k0_t1_body (F := F) i q hq k hk v hv o ho mx hmx dn hdn u PUnit.unit)
            (fun _ => Held c q k v o mx dn Xq Xk Xv (o.view.writes (Elt F) fo Lo) (mx.view.writes (Elt F) fm Lm) (dn.view.writes (Elt F) fd Ld)) } := by
  have hu : u.val < 64 := Nat.lt_of_lt_of_le u.isLt k0_t1_abs.2.1
  refine ⟨?_, ?_, ?_, ?run⟩
  case run =>
    unfold k0_t1_body
    iintro ⟨Hq, Hk, Hv, Ho, Hm, Hd⟩
    sl_exec
    sl_step
    sl_close

/-- One trip of the second loop, whatever the three written buffers hold. -/
@[irreducible] def trip2 (u : Fin k0_t2_loop.trips) (fo : BufTy.Contents (Elt F) o.view.ty) (fm : BufTy.Contents (Elt F) mx.view.ty) (fd : BufTy.Contents (Elt F) dn.view.ty) :
    Σ' (Lo : List (View.Piece (Elt F) S1x8192x128 .f32)) (Lm : List (View.Piece (Elt F) S8192x128 .f32)),
      { Ld : List (View.Piece (Elt F) S8192x128 .f32) //
        Held c q k v o mx dn Xq Xk Xv fo fm fd
        ⊢ wp frame (wpE (defs₀ (F := F)) Variants.none (c : Thread nD τ) none) Set.univ
            (k0_t2_body (F := F) i q hq k hk v hv o ho mx hmx dn hdn u PUnit.unit)
            (fun _ => Held c q k v o mx dn Xq Xk Xv (o.view.writes (Elt F) fo Lo) (mx.view.writes (Elt F) fm Lm) (dn.view.writes (Elt F) fd Ld)) } := by
  have hu : u.val < 64 := Nat.lt_of_lt_of_le u.isLt k0_t2_abs.2.1
  refine ⟨?_, ?_, ?_, ?run⟩
  case run =>
    unfold k0_t2_body
    iintro ⟨Hq, Hk, Hv, Ho, Hm, Hd⟩
    sl_exec
    sl_step
    sl_close

/-- One trip of the third loop, whatever the three written buffers hold. -/
@[irreducible] def trip3 (u : Fin k0_t3_loop.trips) (fo : BufTy.Contents (Elt F) o.view.ty) (fm : BufTy.Contents (Elt F) mx.view.ty) (fd : BufTy.Contents (Elt F) dn.view.ty) :
      { Lo : List (View.Piece (Elt F) S1x8192x128 .f32) //
        Held c q k v o mx dn Xq Xk Xv fo fm fd
        ⊢ wp frame (wpE (defs₀ (F := F)) Variants.none (c : Thread nD τ) none) Set.univ
            (k0_t3_body (F := F) i q hq k hk v hv o ho mx hmx dn hdn u PUnit.unit)
            (fun _ => Held c q k v o mx dn Xq Xk Xv (o.view.writes (Elt F) fo Lo) fm fd) } := by
  have hu : u.val < 64 := Nat.lt_of_lt_of_le u.isLt k0_t3_abs.2.1
  refine ⟨?_, ?run⟩
  case run =>
    unfold k0_t3_body
    iintro ⟨Hq, Hk, Hv, Ho, Hm, Hd⟩
    sl_exec
    sl_step
    sl_close

end Cert.KernelIdeal.Attn

end
-- ==== Proof.Ideal1.Loops.lean ====
/- The attention's three counted loops, one after another, from any contents of the buffers: the inputs are left
   as they were, and what the output, the running maxima and the running denominators hold at the end is named by
   iterating one trip's writes. -/
module

public import proofs.«01_k».proof.Proof.Ideal1.Trips

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of the three buffers a trip writes: the output, the maxima, the denominators. -/
structure State (o : Blk) (mx dn : Scr) : Type where
  /-- the output's buffer -/
  out : BufTy.Contents (Elt F) o.view.ty
  /-- the maxima's buffer -/
  mx : BufTy.Contents (Elt F) mx.view.ty
  /-- the denominators' buffer -/
  dn : BufTy.Contents (Elt F) dn.view.ty

/-- The contents after the first `k` of `n` trips, `step` being one trip's change. -/
def iterate {S : Type} (n : Nat) (step : Fin n → S → S) (s : S) : Nat → S
  | 0 => s
  | k + 1 => if h : k < n then step ⟨k, h⟩ (iterate n step s k) else iterate n step s k

theorem iterate_succ {S : Type} {n : Nat} (step : Fin n → S → S) (s : S) (k : Fin n) :
    iterate n step s (k.val + 1) = step k (iterate n step s k.val) := by
  show (if h : k.val < n then _ else _) = _
  rw [dif_pos k.isLt]

theorem iterate_zero {S : Type} {n : Nat} (step : Fin n → S → S) (s : S) : iterate n step s 0 = s := rfl

attribute [irreducible] iterate

/-- A counted loop whose trips each take the resources of `s` to those of `step u s` takes them to the iterate's. -/
theorem for_iterate (c : Dev nD) {S : Type} {w : Nat} {lb ub st : BitVec w} (hok : Scf.OK lb ub st)
    (body : Fin (Scf.trips lb ub st) → PUnit → Prog (TpuEff nD τ sig (Elt F) Λ₀ .tc) PUnit) (R : S → sProp 𝕄)
    (step : Fin (Scf.trips lb ub st) → S → S)
    (h : ∀ u s, R s ⊢ wp frame (wpE (defs₀ (F := F)) Variants.none (c : Thread nD τ) none) Set.univ (body u PUnit.unit) (fun _ => R (step u s))) (s : S) :
    R s ⊢ wp frame (wpE (defs₀ (F := F)) Variants.none (c : Thread nD τ) none) Set.univ (Scf.for lb ub st hok PUnit.unit body)
      (fun _ => R (iterate _ step s (Scf.trips lb ub st))) := by
  refine BIBase.Entails.trans ?_ (Scf.wp_for frame (wpE (defs₀ (F := F)) Variants.none (c : Thread nD τ) none) Set.univ lb ub st hok _ body
    (fun n _ => R (iterate _ step s n)) fun u _ => ?_)
  · rw [iterate_zero]
    iintro H
    isplitl [H]
    · iexact H
    · iintro %_ H; iexact H
  · rw [iterate_succ]
    exact h u _

variable (c : Dev nD) (i : grid0.Coords) (q : Blk) (hq : q.IsWhole) (k : Blk) (hk : k.IsWhole) (v : Blk) (hv : v.IsWhole)
  (o : Blk) (ho : o.IsWhole) (mx : Scr) (hmx : mx.IsWhole) (dn : Scr) (hdn : dn.IsWhole)
  (Xq : BufTy.Contents (Elt F) q.view.ty) (Xk : BufTy.Contents (Elt F) k.view.ty) (Xv : BufTy.Contents (Elt F) v.view.ty)

/-- What a trip holds, the three written buffers' contents together. -/
abbrev HeldAt (s : State (F := F) o mx dn) : sProp 𝕄 := Held c q k v o mx dn Xq Xk Xv s.out s.mx s.dn

/-- One trip of the first loop. -/
def step1 (u : Fin k0_t1_loop.trips) (s : State (F := F) o mx dn) : State (F := F) o mx dn where
  out := o.view.writes (Elt F) s.out (trip1 c i q hq k hk v hv o ho mx hmx dn hdn Xq Xk Xv u s.out s.mx s.dn).1
  mx := mx.view.writes (Elt F) s.mx (trip1 c i q hq k hk v hv o ho mx hmx dn hdn Xq Xk Xv u s.out s.mx s.dn).2.1
  dn := dn.view.writes (Elt F) s.dn (trip1 c i q hq k hk v hv o ho mx hmx dn hdn Xq Xk Xv u s.out s.mx s.dn).2.2.1

/-- One trip of the second loop. -/
def step2 (u : Fin k0_t2_loop.trips) (s : State (F := F) o mx dn) : State (F := F) o mx dn where
  out := o.view.writes (Elt F) s.out (trip2 c i q hq k hk v hv o ho mx hmx dn hdn Xq Xk Xv u s.out s.mx s.dn).1
  mx := mx.view.writes (Elt F) s.mx (trip2 c i q hq k hk v hv o ho mx hmx dn hdn Xq Xk Xv u s.out s.mx s.dn).2.1
  dn := dn.view.writes (Elt F) s.dn (trip2 c i q hq k hk v hv o ho mx hmx dn hdn Xq Xk Xv u s.out s.mx s.dn).2.2.1

/-- One trip of the third loop: only the output is written. -/
def step3 (u : Fin k0_t3_loop.trips) (s : State (F := F) o mx dn) : State (F := F) o mx dn where
  out := o.view.writes (Elt F) s.out (trip3 c i q hq k hk v hv o ho mx hmx dn hdn Xq Xk Xv u s.out s.mx s.dn).1
  mx := s.mx
  dn := s.dn

/-- The contents after the first loop, the second and the third. -/
def after1 (s : State (F := F) o mx dn) : State (F := F) o mx dn :=
  iterate k0_t1_loop.trips (step1 c i q hq k hk v hv o ho mx hmx dn hdn Xq Xk Xv) s k0_t1_loop.trips
def after2 (s : State (F := F) o mx dn) : State (F := F) o mx dn :=
  iterate k0_t2_loop.trips (step2 c i q hq k hk v hv o ho mx hmx dn hdn Xq Xk Xv) s k0_t2_loop.trips
def after3 (s : State (F := F) o mx dn) : State (F := F) o mx dn :=
  iterate k0_t3_loop.trips (step3 c i q hq k hk v hv o ho mx hmx dn hdn Xq Xk Xv) s k0_t3_loop.trips

/-- The first loop. -/
theorem loop1 (s : State (F := F) o mx dn) :
    HeldAt c q k v o mx dn Xq Xk Xv s
    ⊢ wp frame (wpE (defs₀ (F := F)) Variants.none (c : Thread nD τ) none) Set.univ
        (Scf.Loop.for k0_t1_loop k0_t1_ok PUnit.unit (k0_t1_body (F := F) i q hq k hk v hv o ho mx hmx dn hdn))
        (fun _ => HeldAt c q k v o mx dn Xq Xk Xv (after1 c i q hq k hk v hv o ho mx hmx dn hdn Xq Xk Xv s)) :=
  for_iterate c (lb := k0_t1_loop.lb) (ub := k0_t1_loop.ub) (st := k0_t1_loop.st) k0_t1_ok
    (k0_t1_body (F := F) i q hq k hk v hv o ho mx hmx dn hdn) (fun s => HeldAt c q k v o mx dn Xq Xk Xv s)
    (step1 c i q hq k hk v hv o ho mx hmx dn hdn Xq Xk Xv)
    (fun u s => (trip1 c i q hq k hk v hv o ho mx hmx dn hdn Xq Xk Xv u s.out s.mx s.dn).2.2.2) s

/-- The second loop. -/
theorem loop2 (s : State (F := F) o mx dn) :
    HeldAt c q k v o mx dn Xq Xk Xv s
    ⊢ wp frame (wpE (defs₀ (F := F)) Variants.none (c : Thread nD τ) none) Set.univ
        (Scf.Loop.for k0_t2_loop k0_t2_ok PUnit.unit (k0_t2_body (F := F) i q hq k hk v hv o ho mx hmx dn hdn))
        (fun _ => HeldAt c q k v o mx dn Xq Xk Xv (after2 c i q hq k hk v hv o ho mx hmx dn hdn Xq Xk Xv s)) :=
  for_iterate c (lb := k0_t2_loop.lb) (ub := k0_t2_loop.ub) (st := k0_t2_loop.st) k0_t2_ok
    (k0_t2_body (F := F) i q hq k hk v hv o ho mx hmx dn hdn) (fun s => HeldAt c q k v o mx dn Xq Xk Xv s)
    (step2 c i q hq k hk v hv o ho mx hmx dn hdn Xq Xk Xv)
    (fun u s => (trip2 c i q hq k hk v hv o ho mx hmx dn hdn Xq Xk Xv u s.out s.mx s.dn).2.2.2) s

/-- The third loop. -/
theorem loop3 (s : State (F := F) o mx dn) :
    HeldAt c q k v o mx dn Xq Xk Xv s
    ⊢ wp frame (wpE (defs₀ (F := F)) Variants.none (c : Thread nD τ) none) Set.univ
        (Scf.Loop.for k0_t3_loop k0_t3_ok PUnit.unit (k0_t3_body (F := F) i q hq k hk v hv o ho mx hmx dn hdn))
        (fun _ => HeldAt c q k v o mx dn Xq Xk Xv (after3 c i q hq k hk v hv o ho mx hmx dn hdn Xq Xk Xv s)) :=
  for_iterate c (lb := k0_t3_loop.lb) (ub := k0_t3_loop.ub) (st := k0_t3_loop.st) k0_t3_ok
    (k0_t3_body (F := F) i q hq k hk v hv o ho mx hmx dn hdn) (fun s => HeldAt c q k v o mx dn Xq Xk Xv s)
    (step3 c i q hq k hk v hv o ho mx hmx dn hdn Xq Xk Xv)
    (fun u s => (trip3 c i q hq k hk v hv o ho mx hmx dn hdn Xq Xk Xv u s.out s.mx s.dn).2) s

/-- The contents after the whole kernel. -/
def done (s : State (F := F) o mx dn) : State (F := F) o mx dn :=
  after3 c i q hq k hk v hv o ho mx hmx dn hdn Xq Xk Xv (after2 c i q hq k hk v hv o ho mx hmx dn hdn Xq Xk Xv
    (after1 c i q hq k hk v hv o ho mx hmx dn hdn Xq Xk Xv s))

/-- The whole kernel at one grid point. -/
theorem run_kernel (s : State (F := F) o mx dn) :
    HeldAt c q k v o mx dn Xq Xk Xv s
    ⊢ wp frame (wpE (defs₀ (F := F)) Variants.none (c : Thread nD τ) none) Set.univ
        (cc0_attention (F := F) i q hq k hk v hv o ho mx hmx dn hdn)
        (fun _ => HeldAt c q k v o mx dn Xq Xk Xv (done c i q hq k hk v hv o ho mx hmx dn hdn Xq Xk Xv s)) := by
  rw [cc0_attention_eq_skeleton]
  unfold cc0_attention_skel
  rw [wp_bind]
  refine (loop1 c i q hq k hk v hv o ho mx hmx dn hdn Xq Xk Xv s).trans (wp_mono _ _ _ fun _ => ?_)
  rw [wp_bind]
  refine (loop2 c i q hq k hk v hv o ho mx hmx dn hdn Xq Xk Xv _).trans (wp_mono _ _ _ fun _ => ?_)
  rw [wp_bind]
  refine (loop3 c i q hq k hk v hv o ho mx hmx dn hdn Xq Xk Xv _).trans (wp_mono _ _ _ fun _ => ?_)
  rw [wp_pure]
  iintro H
  imodintro
  iexact H

end Cert.KernelIdeal.Attn

end
-- ==== Proof.Ideal1.Run.lean ====
/- The attention's body over whole buffers, as the pipeline calls it: the three inputs' buffers owned at their
   blocks, the output and the two scratch buffers owned at anything; afterwards the output is owned at what
   `done` leaves from some contents. -/
module

public import proofs.«01_k».proof.Proof.Ideal1.Loops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (q : Blk) (hq : q.IsWhole) (k : Blk) (hk : k.IsWhole) (v : Blk) (hv : v.IsWhole)
  (o : Blk) (ho : o.IsWhole) (mx : Scr) (hmx : mx.IsWhole) (dn : Scr) (hdn : dn.IsWhole)
  (x0 x1 x2 : Vec F S1x8192x128 .f32)

/-- What the body leaves in the output's buffer from contents `s` of the three written buffers, the inputs' buffers
    holding the blocks `x0`, `x1` and `x2`. -/
def left (s : State (F := F) o mx dn) : Vec F S1x8192x128 .f32 :=
  o.view.read (Elt F) (done c i q hq k hk v hv o ho mx hmx dn hdn (hq.unread x0) (hk.unread x1) (hv.unread x2) s).out

theorem run_owned (K : PUnit → sProp 𝕄) :
    iprop(owns (c : Thread nD τ) q fullShare x0 ∗ owns (c : Thread nD τ) k fullShare x1 ∗ owns (c : Thread nD τ) v fullShare x2
      ∗ (∃ d, owns (c : Thread nD τ) o fullShare d) ∗ (∃ d, owns (c : Thread nD τ) mx fullShare d) ∗ (∃ d, owns (c : Thread nD τ) dn fullShare d)
      ∗ (iprop(owns (c : Thread nD τ) q fullShare x0 ∗ owns (c : Thread nD τ) k fullShare x1 ∗ owns (c : Thread nD τ) v fullShare x2
          ∗ (∃ s, owns (c : Thread nD τ) o fullShare (left c i q hq k hk v hv o ho mx hmx dn hdn x0 x1 x2 s))
          ∗ (∃ d, owns (c : Thread nD τ) mx fullShare d) ∗ (∃ d, owns (c : Thread nD τ) dn fullShare d)) -∗ K ⟨⟩))
    ⊢ wp frame (wpE (defs₀ (F := F)) Variants.none (c : Thread nD τ) none) Set.univ
        (cc0_attention (F := F) i q hq k hk v hv o ho mx hmx dn hdn) K := by
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := hq.eq_unread hf0; obtain rfl := hk.eq_unread hf1; obtain rfl := hv.eq_unread hf2
  iapply (wp_wand_r frame (wpE (defs₀ (F := F)) Variants.none (c : Thread nD τ) none) Set.univ)
  isplitr [Hk]
  · iapply (run_kernel c i q hq k hk v hv o ho mx hmx dn hdn (hq.unread x0) (hk.unread x1) (hv.unread x2) ⟨f3, f4, f5⟩)
    isplitl [H0]; · iexact H0
    isplitl [H1]; · iexact H1
    isplitl [H2]; · iexact H2
    isplitl [H3]; · iexact H3
    isplitl [H4]; · iexact H4
    iexact H5
  iintro %_ ⟨H0, H1, H2, H3, H4, H5⟩
  iapply Hk
  isplitl [H0]
  · iexists _; isplitr; · ipureintro; exact hq.read_unread _
    iexact H0
  isplitl [H1]
  · iexists _; isplitr; · ipureintro; exact hk.read_unread _
    iexact H1
  isplitl [H2]
  · iexists _; isplitr; · ipureintro; exact hv.read_unread _
    iexact H2
  isplitl [H3]
  · iexists ⟨f3, f4, f5⟩, _; isplitr; swap; · iexact H3
    ipureintro; rfl
  isplitl [H4]
  · iexists _, _; isplitr; swap; · iexact H4
    ipureintro; rfl
  iexists _, _; isplitr; swap; · iexact H5
  ipureintro; rfl

end Cert.KernelIdeal.Attn

end
-- ==== Proof.Ideal1.Frame.lean ====
/- The attention's launch with nothing said of its output: at any values and from any memory, every run ends with
   the argument as it was and every semaphore counter at zero. -/
module

public import proofs.«01_k».proof.Proof.Ideal1.Run

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Between two points the core holds the two scratch buffers, each at some contents, and its generator register. -/
theorem scratch_eq (c : Dev nD) :
    (Pipeline.ΦA spec0 c : sProp 𝕄)
      = iprop(iprop((∃ d, owns (c : Thread nD τ) (Memref.whole cc0_scratch0 : Scr) fullShare d)
          ∗ (∃ d, owns (c : Thread nD τ) (Memref.whole cc0_scratch1 : Scr) fullShare d)) ∗ (∃ r, prngReg c r)) := by
  unfold Pipeline.ΦA; rw [scopedRest0_eq]; simp only [owns_whole]; try rfl

/-- The body table's row at a point's slots is the body on the point's buffers. -/
theorem body_row (t : Fin cfg0.N) : defs₀ (F := F) .tc cfg0.body (cfg0.bodyArgs t (cfg0.slots t)) = bodyAt0 t := by
  unfold defs₀; rw [Defs.onTc_tc]

/-- The four windows' buffers in use at a point. -/
abbrev bufQ (t : Fin cfg0.N) : Blk := win0_0.stage (cfg0.slots t 0)
abbrev bufK (t : Fin cfg0.N) : Blk := win0_1.stage (cfg0.slots t 1)
abbrev bufV (t : Fin cfg0.N) : Blk := win0_2.stage (cfg0.slots t 2)
abbrev bufO (t : Fin cfg0.N) : Blk := win0_3.stage (cfg0.slots t 3)
theorem wholeQ (t : Fin cfg0.N) : (bufQ t).IsWhole := hstage0_0 ((cfg0.slots t 0).cast nbuf0_0)
theorem wholeK (t : Fin cfg0.N) : (bufK t).IsWhole := hstage0_1 ((cfg0.slots t 1).cast nbuf0_1)
theorem wholeV (t : Fin cfg0.N) : (bufV t).IsWhole := hstage0_2 ((cfg0.slots t 2).cast nbuf0_2)
theorem wholeO (t : Fin cfg0.N) : (bufO t).IsWhole := hstage0_3 ((cfg0.slots t 3).cast nbuf0_3)

/-- The output is the only window forgotten. -/
def unsaid : Fin 4 → Bool := fun w => w.val == 3

/-- The pipeline's data: the inputs' buffers hold their blocks, nothing is said of the output; the three inputs
    share one array, so each holds its part of the array's share. -/
def fdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) ⟨3, h⟩ t
  Φ _ := Pipeline.ΦA spec0 c
  q w := Pipeline.shareOf spec0 w
  owed _ := 0

theorem fdat_A (c : Dev nD) (w : Fin cfg0.W) : (fdat m 0 c).A w = V m c (Pipeline.arrRef spec0 w) := by
  dsimp only [fdat]

theorem fafter_0 (c : Dev nD) (t : Fin cfg0.N) : (fdat m 0 c).after 0 t = iblk m c 0 t := by dsimp only [fdat]
theorem fafter_1 (c : Dev nD) (t : Fin cfg0.N) : (fdat m 0 c).after 1 t = iblk m c 1 t := by dsimp only [fdat]
theorem fafter_2 (c : Dev nD) (t : Fin cfg0.N) : (fdat m 0 c).after 2 t = iblk m c 2 t := by dsimp only [fdat]

theorem fbefore_0 (c : Dev nD) (t : Fin cfg0.N) (d) : (fdat m 0 c).before 0 t d = iblk m c 0 t :=
  before0_0_of m (fdat m 0 c) (fdat_A m c 0) (fafter_0 m c) t d
theorem fbefore_1 (c : Dev nD) (t : Fin cfg0.N) (d) : (fdat m 0 c).before 1 t d = iblk m c 1 t :=
  before0_1_of m (fdat m 0 c) (fdat_A m c 1) (fafter_1 m c) t d
theorem fbefore_2 (c : Dev nD) (t : Fin cfg0.N) (d) : (fdat m 0 c).before 2 t d = iblk m c 2 t :=
  before0_2_of m (fdat m 0 c) (fdat_A m c 2) (fafter_2 m c) t d

/-- What the body is called with at a point, -/
def fpre (c : Dev nD) (t : Fin cfg0.N) : sProp 𝕄 :=
  iprop((fdat m 0 c).Φ t.castSucc ∗ (fdat m 0 c).owesAt () t.castSucc
    ∗ (∃ d, owns (c : Thread nD τ) (bufQ t) fullShare ((fdat m 0 c).before 0 t d))
    ∗ (∃ d, owns (c : Thread nD τ) (bufK t) fullShare ((fdat m 0 c).before 1 t d))
    ∗ (∃ d, owns (c : Thread nD τ) (bufV t) fullShare ((fdat m 0 c).before 2 t d))
    ∗ (∃ d, owns (c : Thread nD τ) (bufO t) fullShare d))

/-- and what it returns. -/
def fpost (c : Dev nD) (t : Fin cfg0.N) : sProp 𝕄 :=
  iprop((fdat m 0 c).Φ t.succ ∗ (fdat m 0 c).owesAt () t.succ
    ∗ owns (c : Thread nD τ) (bufQ t) fullShare ((fdat m 0 c).after 0 t)
    ∗ owns (c : Thread nD τ) (bufK t) fullShare ((fdat m 0 c).after 1 t)
    ∗ owns (c : Thread nD τ) (bufV t) fullShare ((fdat m 0 c).after 2 t)
    ∗ (∃ d, owns (c : Thread nD τ) (bufO t) fullShare d))

theorem fbody (c : Dev nD) (t : Fin cfg0.N) :
    fpre m c t ⊢ wp frame (wpE (defs₀ (F := F)) Variants.none c none) Set.univ (bodyAt0 t) (fun _ => fpost m c t) := by
  unfold fpre fpost bodyAt0
  simp only [fbefore_0, fbefore_1, fbefore_2]
  rw [show (fdat m 0 c).Φ t.succ = (fdat m 0 c).Φ t.castSucc from rfl,
    show (fdat m 0 c).owesAt () t.succ = (fdat m 0 c).owesAt () t.castSucc from rfl,
    fafter_0, fafter_1, fafter_2]
  rw [show (fdat m 0 c).Φ t.castSucc = Pipeline.ΦA spec0 c from rfl, scratch_eq]
  iintro ⟨⟨⟨HS0, HS1⟩, Hg⟩, Ho, ⟨%d0, H0⟩, ⟨%d1, H1⟩, ⟨%d2, H2⟩, H3⟩
  iapply (run_owned c (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, ⟨%s, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexists _; iexact H3

theorem fobligation (c : Dev nD) : BodyObligation (fdat (F := F) m 0 c) (defs₀ (F := F)) Variants.none () Set.univ unsaid := fun t => by
  rw [bigSep_W0, bigSep_W0, body_row]
  exact triple_restated (fbody m c t) rfl .rfl fun _ => .rfl

set_option backward.isDefEq.respectTransparency.types false in
/-- The launch: the argument and the counters. -/
theorem frun : θ_run defs (onTc (τ := τ) (main (F := F))) (s₀ m ρ)
    (fun r => (Pipeline.RDat.FramePost (cfgs 0) (fun c => (fdat m 0 c).toRForget unsaid) (V m)) r ∧ r.2.sem = fun _ => 0) :=
  Pipeline.θ_run_frame_forget_shared (Q' := _) cfgs (fdat m) (0 : Fin 1) launch₀0 defs₀ Variants.none unsaid m ρ main
    (hbody := fun c => (fobligation m c).loose) (hq := fun _ _ _ => rfl)
    (howed := fun _ _ => rfl) (V := V m) (hmain := hmain m Variants.none) (hA := fdat_A m) (hΦ := fun _ _ => rfl)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (Pipeline.RDat.FramePost.arr_in h.1 c 0 rfl).trans ((fdat_A m c 0).trans (V_main_arg0 m c)), h.2⟩)
    (frun m ρ)

end Cert.KernelIdeal.Attn

end
-- ==== Proof.Ideal1.Claims.lean ====
/- The frames of the attention's three programs, and what its idealised program keeps. -/
module

public import proofs.«01_k».proof.Defs
public import proofs.«01_k».proof.Proof.Bits1.Frame
public import proofs.«01_k».proof.Proof.Ideal1.Frame
public import proofs.«01_k».proof.Proof.Gen.ReferenceIdeal.Run

@[expose] public section

set_option maxRecDepth 16384

noncomputable section

namespace Cert.Proof.Attn

open Idealize.ShloMosaic Idealize.SL.Sem

theorem frame_p : Cert.quiescent_Kernel := fun m ρ _ => Cert.Kernel.Attn.frame m ρ

theorem frame_pi : Cert.quiescent_KernelIdeal := fun m ρ _ => Cert.KernelIdeal.Attn.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's name stands for minus infinity. -/
theorem preserves : Cert.preserves_Kernel_KernelIdeal :=
  IdealRules.named_const.statement Cert.KernelIdeal.κ "mask" .f32 0xF149F2CA#32 ⊥ rfl

end Cert.Proof.Attn

end
-- ==== Proof.Ideal1.Spec.lean ====
/- Banded attention of one head along three dilations, row by row over the ideal values, and the laws by which the
   dilations' results are joined. -/
module

public import proofs.«01_k».proof.Proof.Ideal1.Run
public import Idealize.ShloMosaic.Lib.Pointwise

@[expose] public section

set_option maxRecDepth 16384

noncomputable section

namespace Cert.Attn

open Idealize.ShloMosaic

/-! ## The function -/

/-- The reduction's neutral element and the score's factor 1/8, as the programs spell them. -/
abbrev low : EReal := Ideal.ofBits .f32 0xFF800000#32
abbrev eighth : EReal := Ideal.ofBits .f32 0x3E000000#32

theorem low_eq : low = ⊥ := by simp [low, Ideal.ofBits, Ideal.ieee]

theorem eighth_eq : eighth = (((1 : ℝ) / 8 : ℝ) : EReal) := by
  simp [eighth, Ideal.ofBits, Ideal.ieee]
  rw [← EReal.coe_mul]
  norm_num

/-- The row of the key in slot `kk` of row `s`'s window, at dilation `d`: 256 slots, the row itself in slot
    `s / d % 128 + 128`. -/
def keyAt (d : ℕ) (s : Fin 8192) (kk : Fin 256) : Fin 8192 :=
  ⟨s.val - d * (s.val / d % 128 + 128 - kk.val), Nat.lt_of_le_of_lt (Nat.sub_le _ _) s.isLt⟩

/-- Slot `kk` of row `s`'s window is inside the band and inside the sequence. -/
def ok (d : ℕ) (s : Fin 8192) (kk : Fin 256) : Prop :=
  (kk.val ≤ s.val / d % 128 + 128 ∧ s.val / d % 128 ≤ kk.val) ∧ 128 ≤ s.val / d / 128 * 128 + kk.val

instance (d : ℕ) (s : Fin 8192) (kk : Fin 256) : Decidable (ok d s kk) := by unfold ok; infer_instance

variable (q k v : Fin 8192 → Fin 64 → EReal)

/-- The masked score, its maximum over the window, the weights, their sum, and the weighted sum of the values. -/
def score (d : ℕ) (s : Fin 8192) (kk : Fin 256) : EReal :=
  if ok d s kk then (∑ e : Fin 64, q s e * k (keyAt d s kk) e) * eighth else low
def top (d : ℕ) (s : Fin 8192) : EReal := Finset.univ.fold max low (score q k d s)
def weight (d : ℕ) (s : Fin 8192) (kk : Fin 256) : EReal := Ideal.exp (score q k d s kk - top q k d s)
def den (d : ℕ) (s : Fin 8192) : EReal := ∑ kk, weight q k d s kk
def num (d : ℕ) (s : Fin 8192) (e : Fin 64) : EReal := ∑ kk, weight q k d s kk * v (keyAt d s kk) e

/-- The three dilations' maxima together. -/
def peak (s : Fin 8192) : EReal := max (max (top q k 1 s) (top q k 4 s)) (top q k 16 s)
/-- The factor by which a dilation's results are rescaled. -/
def share (d : ℕ) (s : Fin 8192) : EReal := Ideal.exp (top q k d s - peak q k s)

/-- Row `s`, lane `e` of the attention's result. -/
def result (s : Fin 8192) (e : Fin 64) : EReal :=
  Ideal.div (share q k 1 s * num q k v 1 s e + share q k 4 s * num q k v 4 s e + share q k 16 s * num q k v 16 s e)
    (share q k 1 s * den q k 1 s + share q k 4 s * den q k 4 s + share q k 16 s * den q k 16 s)

/-! ## Laws -/

/-- A difference with minus infinity on its left is minus infinity, whose exponential is zero. -/
theorem exp_low_sub (a : EReal) : Ideal.exp (low - a) = 0 := by
  rw [low_eq, sub_eq_add_neg, EReal.bot_add]; rfl

theorem fold_three (f : Fin 3 → EReal) : Finset.univ.fold max low f = max (max (f 0) (f 1)) (f 2) := by
  have h : (Finset.univ : Finset (Fin 3)) = {0, 1, 2} := rfl
  rw [h, Finset.fold_insert (by decide), Finset.fold_insert (by decide), Finset.fold_singleton, low_eq, max_bot_right, max_assoc]

/-- A slot outside the band has no weight, whatever its value. -/
theorem weight_outside {d : ℕ} {s : Fin 8192} {kk : Fin 256} (h : ¬ ok d s kk) (a c : EReal) :
    weight q k d s kk * a = weight q k d s kk * c := by
  rw [weight, score, if_neg h, exp_low_sub, zero_mul, zero_mul]

/-- A sum of weighted values taken in two halves of a window, the values' slots read only inside the band. -/
theorem num_halves (d : ℕ) (s : Fin 8192) (e : Fin 64) (w w' a a' : Fin 128 → EReal)
    (hw : ∀ x : Fin 128, w x = weight q k d s ⟨x.val, by have := x.isLt; omega⟩)
    (hw' : ∀ x : Fin 128, w' x = weight q k d s ⟨128 + x.val, by have := x.isLt; omega⟩)
    (ha : ∀ x : Fin 128, ok d s ⟨x.val, by have := x.isLt; omega⟩ → a x = v (keyAt d s ⟨x.val, by have := x.isLt; omega⟩) e)
    (ha' : ∀ x : Fin 128, ok d s ⟨128 + x.val, by have := x.isLt; omega⟩ → a' x = v (keyAt d s ⟨128 + x.val, by have := x.isLt; omega⟩) e) :
    ∑ x, w x * a x + ∑ x, w' x * a' x = num q k v d s e := by
  rw [num, Fin.sum_univ_two_halves 128 128 rfl]
  refine congrArg₂ (· + ·) (Finset.sum_congr rfl fun x _ => ?_) (Finset.sum_congr rfl fun x _ => ?_)
  · rw [hw]
    by_cases h : ok d s ⟨x.val, by have := x.isLt; omega⟩
    · rw [ha x h]
    · exact weight_outside _ _ h _ _
  · rw [hw']
    by_cases h : ok d s ⟨128 + x.val, by have := x.isLt; omega⟩
    · rw [ha' x h]
    · exact weight_outside _ _ h _ _

theorem exp_nonneg (a : EReal) : 0 ≤ Ideal.exp a := by
  induction a with
  | bot => exact le_rfl
  | top => exact le_top
  | coe r => exact EReal.coe_nonneg.mpr (Real.exp_pos r).le

theorem exp_ne_top {a : EReal} (h : a ≠ ⊤) : Ideal.exp a ≠ ⊤ := by
  induction a with
  | bot => exact EReal.zero_ne_top
  | top => exact absurd rfl h
  | coe r => exact EReal.coe_ne_top _

theorem sub_ne_top {a b : EReal} (h : a ≤ b) : a - b ≠ ⊤ := by
  induction a with
  | bot => rw [sub_eq_add_neg, EReal.bot_add]; exact bot_ne_top
  | top => rw [top_le_iff.mp h]; decide
  | coe r => induction b with
    | bot => exact absurd h (by simp)
    | top => simp
    | coe t => rw [← EReal.coe_sub]; exact EReal.coe_ne_top _

/-- Rescaling to `b` and then to `c` is rescaling to `c`. -/
theorem exp_chain {a b c : EReal} (hab : a ≤ b) (hbc : b ≤ c) :
    Ideal.exp (b - c) * Ideal.exp (a - b) = Ideal.exp (a - c) := by
  have hbot : Ideal.exp ⊥ = 0 := rfl
  induction a with
  | bot => simp only [sub_eq_add_neg, EReal.bot_add, hbot, mul_zero]
  | top =>
    obtain rfl := top_le_iff.mp hab
    obtain rfl := top_le_iff.mp hbc
    simp only [sub_eq_add_neg, EReal.neg_top, EReal.add_bot, hbot, mul_zero]
  | coe r => induction b with
    | bot => exact absurd hab (by simp)
    | top =>
      obtain rfl := top_le_iff.mp hbc
      simp only [sub_eq_add_neg, EReal.neg_top, EReal.add_bot, hbot, mul_zero]
    | coe t => induction c with
      | bot => exact absurd hbc (by simp)
      | top => simp only [sub_eq_add_neg, EReal.neg_top, EReal.add_bot, hbot, zero_mul]
      | coe w =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2; ring

/-- Joining two dilations and then the third is joining the three at once. -/
theorem joined (m1 m2 m3 a b c : EReal) :
    Ideal.exp (max m1 m2 - max (max m1 m2) m3) * (Ideal.exp (m1 - max m1 m2) * a + Ideal.exp (m2 - max m1 m2) * b)
      + Ideal.exp (m3 - max (max m1 m2) m3) * c
    = Ideal.exp (m1 - max (max m1 m2) m3) * a + Ideal.exp (m2 - max (max m1 m2) m3) * b
      + Ideal.exp (m3 - max (max m1 m2) m3) * c := by
  rw [EReal.left_distrib_of_nonneg_of_ne_top (exp_nonneg _) (exp_ne_top (sub_ne_top (le_max_left _ _))),
    ← mul_assoc, ← mul_assoc, exp_chain (le_max_left _ _) (le_max_left _ _), exp_chain (le_max_right _ _) (le_max_left _ _)]

/-! ## Words -/

theorem word_int (n : ℕ) (h : n < 2147483648) : (BitVec.ofNat 32 n).toInt = n := by
  rw [BitVec.toInt_eq_toNat_of_lt (by rw [BitVec.toNat_ofNat]; omega), BitVec.toNat_ofNat, Nat.mod_eq_of_lt (by omega)]

theorem add_mul_eighth {n : ℕ} (f : Fin n → EReal) : (∑ e, f e) * eighth = ∑ e, f e * eighth := by
  have h0 : (0 : EReal) ≤ eighth := by rw [eighth_eq]; exact EReal.coe_nonneg.mpr (by norm_num)
  have h1 : eighth ≠ ⊤ := by rw [eighth_eq]; exact EReal.coe_ne_top _
  induction (Finset.univ : Finset (Fin n)) using Finset.induction_on with
  | empty => simp
  | insert a t ha ih =>
    rw [Finset.sum_insert ha, Finset.sum_insert ha, EReal.right_distrib_of_nonneg_of_ne_top h0 h1, ih]

end Cert.Attn

end
-- ==== Proof.Ideal1.Units.lean ====
/- One trip's block computation, entry by entry over the ideal values: what the three loops' payloads hold at a row and
   a lane. -/
module

public import proofs.«01_k».proof.Proof.Ideal1.Spec

@[expose] public section

set_option maxRecDepth 16384

noncomputable section

namespace Cert.KernelIdeal.Attn

open Cert.KernelIdeal Cert.KernelIdeal.Gen Cert.Attn
open Idealize.ShloMosaic Idealize.ShloMosaic.TcCoe

/-- The lane of entry `e` of the head that holds lane `x`. -/
def half (x : Fin 128) (e : Fin 64) : Fin 128 := ⟨x.val / 64 * 64 + e.val, by have := x.isLt; have := e.isLt; omega⟩

/-- A unit's blocks of queries, keys and values. -/
abbrev QBlk : Type := Vec Ideal S1x128x128 .f32
abbrev KBlk : Type := Vec Ideal S1x256x128 .f32

variable (b : ℕ) (qv : QBlk) (kv vv : KBlk)

/-- The masked score of a unit's row `j` against its key `kk`, in the head of lane `x`; `b` is the rows' offset from
    the keys. -/
def uscore (j x : Fin 128) (kk : Fin 256) : EReal :=
  if kk.val ≤ j.val + b ∧ j.val + b ≤ kk.val + 128
    then (∑ e : Fin 64, qv (ix3 0 j (half x e)) * kv (ix3 0 kk (half x e))) * eighth else low
def utop (j x : Fin 128) : EReal := Finset.univ.fold max low (uscore b qv kv j x)
def uweight (j x : Fin 128) (kk : Fin 256) : EReal := Ideal.exp (uscore b qv kv j x kk - utop b qv kv j x)
def uden (j x : Fin 128) : EReal := ∑ kk, uweight b qv kv j x kk
def unum (j x : Fin 128) : EReal := ∑ kk, uweight b qv kv j x kk * vv (ix3 0 kk x)

/-- The mask's name denotes the reduction's neutral element. -/
theorem mask_low : Named.named (F := Ideal) (φ := .f32) κ "mask" 0xF149F2CA#32 = low := by
  rw [low_eq]; rfl

/-- Distances as 32-bit words, the rows offset by `b`. -/
def IsDist (D : IVec S128x256 32) : Prop :=
  ∀ (j : Fin 128) (kk : Fin 256), D (ix2 j kk) = BitVec.ofNat 32 j.val - BitVec.ofNat 32 kk.val + BitVec.ofNat 32 b

/-- The band's two comparisons on a word that holds a distance. -/
theorem band (hb : b = 0 ∨ b = 128) (j : Fin 128) (kk : Fin 256) (x y : EReal) :
    Scalar.select (IntOp.andi
        (IntOp.cmpi .sge (BitVec.ofNat 32 j.val - BitVec.ofNat 32 kk.val + BitVec.ofNat 32 b) 0#32)
        (IntOp.cmpi .sle (BitVec.ofNat 32 j.val - BitVec.ofNat 32 kk.val + BitVec.ofNat 32 b) 128#32)) x y
      = if kk.val ≤ j.val + b ∧ j.val + b ≤ kk.val + 128 then x else y := by
  have hj := j.isLt
  have hk := kk.isLt
  have hw : (BitVec.ofNat 32 j.val - BitVec.ofNat 32 kk.val + BitVec.ofNat 32 b).toInt = (j.val : ℤ) - kk.val + b := by
    rw [BitVec.toInt_add, BitVec.toInt_sub, word_int _ (by omega), word_int _ (by omega), word_int _ (by omega), Int.bmod_add_bmod]
    rw [Int.bmod_def]; omega
  generalize BitVec.ofNat 32 j.val - BitVec.ofNat 32 kk.val + BitVec.ofNat 32 b = w at hw
  have hz : (0#32).toInt = 0 := rfl
  have ho : (128#32).toInt = 128 := rfl
  simp only [IntOp.andi, IntOp.cmpi, Scalar.select, BitVec.sle, hw, hz, ho]
  by_cases h1 : kk.val ≤ j.val + b <;> by_cases h2 : j.val + b ≤ kk.val + 128
  · rw [decide_eq_true (by omega), decide_eq_true (by omega)]; exact (if_pos rfl).trans (if_pos ⟨h1, h2⟩).symm
  · rw [decide_eq_true (by omega), decide_eq_false (by omega)]; exact (if_neg (by decide)).trans (if_neg (fun h => h2 h.2)).symm
  · rw [decide_eq_false (by omega), decide_eq_true (by omega)]; exact (if_neg (by decide)).trans (if_neg (fun h => h1 h.1)).symm
  · rw [decide_eq_false (by omega), decide_eq_false (by omega)]; exact (if_neg (by decide)).trans (if_neg (fun h => h1 h.1)).symm

theorem lane_lt (x : Fin 128) (a c : EReal) :
    Scalar.select (IntOp.cmpi .slt (BitVec.ofNat 32 x.val) 64#32) a c = if x.val < 64 then a else c := by
  have h : ∀ x : Fin 128, IntOp.cmpi .slt (BitVec.ofNat 32 x.val) 64#32 = if x.val < 64 then 1#1 else 0#1 := by decide +kernel
  rw [h]
  by_cases hx : x.val < 64
  · rw [if_pos hx, if_pos hx]; rfl
  · rw [if_neg hx, if_neg hx]; rfl

theorem lane_ge (x : Fin 128) (a c : EReal) :
    Scalar.select (IntOp.xori (IntOp.cmpi .slt (BitVec.ofNat 32 x.val) 64#32) 1#1) a c = if x.val < 64 then c else a := by
  have h : ∀ x : Fin 128, IntOp.xori (IntOp.cmpi .slt (BitVec.ofNat 32 x.val) 64#32) 1#1 = if x.val < 64 then 0#1 else 1#1 := by decide +kernel
  rw [h]
  by_cases hx : x.val < 64
  · rw [if_pos hx, if_pos hx]; rfl
  · rw [if_neg hx, if_neg hx]; rfl

/-- The choice between the two heads of a lane. -/
theorem lane_read (j x : Fin 128) (a c : EReal) : Scalar.select (k0_pay1 (ix2 j x)) a c = if x.val < 64 then a else c := by
  rw [← lane_lt]
  pointwise [k0_pay1]

/-- The lanes of one head: the other head's lanes are zero. -/
theorem first_half (f : Fin 128 → EReal) (x : Fin 128) (hx : x.val < 64) :
    (∑ y : Fin 128, if y.val < 64 then f y else 0) = ∑ e : Fin 64, f (half x e) := by
  rw [Fin.sum_univ_two_halves 64 64 rfl, Finset.sum_eq_zero (s := Finset.univ) (f := fun k : Fin 64 => if 64 + k.val < 64 then _ else _)
    (fun k _ => if_neg (by omega)), add_zero]
  refine Finset.sum_congr rfl fun e _ => ?_
  rw [if_pos e.isLt]
  exact congrArg f (Fin.ext (by have := e.isLt; simp only [half]; omega))

theorem second_half (f : Fin 128 → EReal) (x : Fin 128) (hx : ¬ x.val < 64) :
    (∑ y : Fin 128, if y.val < 64 then 0 else f y) = ∑ e : Fin 64, f (half x e) := by
  rw [Fin.sum_univ_two_halves 64 64 rfl, Finset.sum_eq_zero (s := Finset.univ) (f := fun k : Fin 64 => if k.val < 64 then _ else _)
    (fun k _ => if_pos k.isLt), zero_add]
  refine Finset.sum_congr rfl fun e _ => ?_
  rw [if_neg (by show ¬ 64 + e.val < 64; omega)]
  exact congrArg f (Fin.ext (by have := e.isLt; have := x.isLt; simp only [half]; omega))

/-- The score's factor applied to the queries is the factor applied to the score. -/
theorem scaled (f g : Fin 64 → EReal) : ∑ e, f e * eighth * g e = (∑ e, f e * g e) * eighth := by
  rw [add_mul_eighth]
  exact Finset.sum_congr rfl fun e _ => mul_right_comm _ _ _

section
variable (D : IVec S128x256 32) (hD : IsDist b D) (hb : b = 0 ∨ b = 128) (j x : Fin 128)
include hD hb

theorem score0 (hx : x.val < 64) (kk : Fin 256) :
    k0_pay14 (F := Ideal) k0_pay1 D k0_pay9 qv kv (ix2 j kk) = uscore b qv kv j x kk := by
  pointwise [k0_pay14, k0_pay10, k0_pay9, k0_pay11, k0_pay12, k0_pay1]
  rw [hD, band b hb, mask_low]
  simp only [lane_lt]
  rw [first_half (fun y => qv (ix3 0 j y) * eighth * kv (ix3 0 kk y)) x hx,
    scaled (fun e => qv (ix3 0 j (half x e))) (fun e => kv (ix3 0 kk (half x e)))]
  rfl

theorem score1 (hx : ¬ x.val < 64) (kk : Fin 256) :
    k0_pay19 (F := Ideal) k0_pay1 D k0_pay9 qv kv (ix2 j kk) = uscore b qv kv j x kk := by
  pointwise [k0_pay19, k0_pay10, k0_pay9, k0_pay11, k0_pay12, k0_pay1]
  rw [hD, band b hb, mask_low]
  simp only [lane_ge]
  rw [second_half (fun y => qv (ix3 0 j y) * eighth * kv (ix3 0 kk y)) x hx,
    scaled (fun e => qv (ix3 0 j (half x e))) (fun e => kv (ix3 0 kk (half x e)))]
  rfl

theorem top0 (hx : x.val < 64) : k0_pay15 (F := Ideal) k0_pay1 D k0_pay9 qv kv (ix2 j 0) = utop b qv kv j x := by
  have h := funext (score0 b qv kv D hD hb j x hx)
  unfold k0_pay15
  generalize k0_pay14 (F := Ideal) k0_pay1 D k0_pay9 qv kv = S at h
  pointwise
  rw [h]; rfl

theorem top1 (hx : ¬ x.val < 64) : k0_pay20 (F := Ideal) k0_pay1 D k0_pay9 qv kv (ix2 j 0) = utop b qv kv j x := by
  have h := funext (score1 b qv kv D hD hb j x hx)
  unfold k0_pay20
  generalize k0_pay19 (F := Ideal) k0_pay1 D k0_pay9 qv kv = S at h
  pointwise
  rw [h]; rfl

theorem weight0 (hx : x.val < 64) (kk : Fin 256) :
    Ideal.exp (k0_pay14 (F := Ideal) k0_pay1 D k0_pay9 qv kv (ix2 j kk) - k0_pay15 (F := Ideal) k0_pay1 D k0_pay9 qv kv (ix2 j 0))
      = uweight b qv kv j x kk := by
  rw [score0 b qv kv D hD hb j x hx, top0 b qv kv D hD hb j x hx]; rfl

theorem weight1 (hx : ¬ x.val < 64) (kk : Fin 256) :
    Ideal.exp (k0_pay19 (F := Ideal) k0_pay1 D k0_pay9 qv kv (ix2 j kk) - k0_pay20 (F := Ideal) k0_pay1 D k0_pay9 qv kv (ix2 j 0))
      = uweight b qv kv j x kk := by
  rw [score1 b qv kv D hD hb j x hx, top1 b qv kv D hD hb j x hx]; rfl

theorem den0 (hx : x.val < 64) : k0_pay17 (F := Ideal) k0_pay1 D k0_pay9 qv kv (ix2 j 0) = uden b qv kv j x := by
  pointwise [k0_pay17, k0_pay16]
  exact Finset.sum_congr rfl fun kk _ => weight0 b qv kv D hD hb j x hx kk

theorem num0 (hx : x.val < 64) : k0_pay18 (F := Ideal) k0_pay1 D k0_pay9 qv kv vv (ix2 j x) = unum b qv kv vv j x := by
  pointwise [k0_pay18, k0_pay16, k0_pay13]
  exact Finset.sum_congr rfl fun kk _ => congrArg (fun z : EReal => z * vv (ix3 0 kk x)) (weight0 b qv kv D hD hb j x hx kk)

/-- The first loop's payloads. -/
theorem pay4_read :
    k0_pay4 (F := Ideal) (k0_pay13 vv) (k0_pay18 k0_pay1 D k0_pay9 qv kv vv) (k0_pay19 k0_pay1 D k0_pay9 qv kv)
      (k0_pay20 k0_pay1 D k0_pay9 qv kv) (ix3 0 j x) = unum b qv kv vv j x := by
  pointwise [k0_pay4, k0_pay3, k0_pay13]
  rw [lane_read]
  split_ifs with hx
  · exact num0 b qv kv vv D hD hb j x hx
  · exact Finset.sum_congr rfl fun kk _ => congrArg (fun z : EReal => z * vv (ix3 0 kk x)) (weight1 b qv kv D hD hb j x hx kk)

theorem pay5_read :
    k0_pay5 (F := Ideal) (k0_pay15 k0_pay1 D k0_pay9 qv kv) (k0_pay20 k0_pay1 D k0_pay9 qv kv) (ix2 j x) = utop b qv kv j x := by
  pointwise [k0_pay5]
  rw [lane_read]
  split_ifs with hx
  · exact top0 b qv kv D hD hb j x hx
  · exact top1 b qv kv D hD hb j x hx

theorem pay6_read :
    k0_pay6 (F := Ideal) (k0_pay17 k0_pay1 D k0_pay9 qv kv) (k0_pay19 k0_pay1 D k0_pay9 qv kv)
      (k0_pay20 k0_pay1 D k0_pay9 qv kv) (ix2 j x) = uden b qv kv j x := by
  pointwise [k0_pay6, k0_pay3]
  rw [lane_read]
  split_ifs with hx
  · exact den0 b qv kv D hD hb j x hx
  · exact Finset.sum_congr rfl fun kk _ => weight1 b qv kv D hD hb j x hx kk

theorem top_read :
    (if x.val < 64 then k0_pay15 (F := Ideal) k0_pay1 D k0_pay9 qv kv (ix2 j 0) else k0_pay20 (F := Ideal) k0_pay1 D k0_pay9 qv kv (ix2 j 0))
      = utop b qv kv j x := by
  split_ifs with hx
  · exact top0 b qv kv D hD hb j x hx
  · exact top1 b qv kv D hD hb j x hx

/-- The second loop's payloads, over the old values `o`, `m` and `l` of the row. -/
theorem pay40_read (o : QBlk) (m : Vec Ideal S128x128 .f32) :
    k0_pay40 (F := Ideal) k0_pay1 (k0_pay13 vv) (k0_pay15 k0_pay1 D k0_pay9 qv kv) (k0_pay18 k0_pay1 D k0_pay9 qv kv vv)
      (k0_pay20 k0_pay1 D k0_pay9 qv kv)
      (subf (k0_pay19 k0_pay1 D k0_pay9 qv kv) (broadcastTo S128x256 (k0_pay20 k0_pay1 D k0_pay9 qv kv) broadcasts_S128x1_S128x256))
      o m (ix3 0 j x)
    = Ideal.exp (m (ix2 j x) - max (m (ix2 j x)) (utop b qv kv j x)) * o (ix3 0 j x)
      + Ideal.exp (utop b qv kv j x - max (m (ix2 j x)) (utop b qv kv j x)) * unum b qv kv vv j x := by
  pointwise [k0_pay40, k0_pay39, k0_pay38, k0_pay37, k0_pay36, k0_pay35, k0_pay13]
  simp only [lane_read]
  rw [top_read b qv kv D hD hb j x]
  refine congrArg (fun z : EReal => Ideal.exp (m (ix2 j x) - max (m (ix2 j x)) (utop b qv kv j x)) * o (ix3 0 j x)
      + Ideal.exp (utop b qv kv j x - max (m (ix2 j x)) (utop b qv kv j x)) * z) ?_
  split_ifs with hx
  · exact num0 b qv kv vv D hD hb j x hx
  · exact Finset.sum_congr rfl fun kk _ => congrArg (fun z : EReal => z * vv (ix3 0 kk x)) (weight1 b qv kv D hD hb j x hx kk)

theorem pay41_read (m : Vec Ideal S128x128 .f32) :
    k0_pay41 (F := Ideal) k0_pay1 (k0_pay15 k0_pay1 D k0_pay9 qv kv) (k0_pay20 k0_pay1 D k0_pay9 qv kv) m (ix2 j x)
    = max (m (ix2 j x)) (utop b qv kv j x) := by
  pointwise [k0_pay41, k0_pay37, k0_pay36]
  rw [lane_read, top_read b qv kv D hD hb j x]

theorem pay42_read (m l : Vec Ideal S128x128 .f32) :
    k0_pay42 (F := Ideal) k0_pay1 (k0_pay15 k0_pay1 D k0_pay9 qv kv) (k0_pay17 k0_pay1 D k0_pay9 qv kv)
      (k0_pay20 k0_pay1 D k0_pay9 qv kv)
      (subf (k0_pay19 k0_pay1 D k0_pay9 qv kv) (broadcastTo S128x256 (k0_pay20 k0_pay1 D k0_pay9 qv kv) broadcasts_S128x1_S128x256))
      m l (ix2 j x)
    = Ideal.exp (m (ix2 j x) - max (m (ix2 j x)) (utop b qv kv j x)) * l (ix2 j x)
      + Ideal.exp (utop b qv kv j x - max (m (ix2 j x)) (utop b qv kv j x)) * uden b qv kv j x := by
  pointwise [k0_pay42, k0_pay39, k0_pay38, k0_pay37, k0_pay36, k0_pay35]
  simp only [lane_read]
  rw [top_read b qv kv D hD hb j x]
  refine congrArg (fun z : EReal => Ideal.exp (m (ix2 j x) - max (m (ix2 j x)) (utop b qv kv j x)) * l (ix2 j x)
      + Ideal.exp (utop b qv kv j x - max (m (ix2 j x)) (utop b qv kv j x)) * z) ?_
  split_ifs with hx
  · exact den0 b qv kv D hD hb j x hx
  · exact Finset.sum_congr rfl fun kk _ => weight1 b qv kv D hD hb j x hx kk

/-- The third loop's payload. -/
theorem pay7_read (o : QBlk) (m l : Vec Ideal S128x128 .f32) :
    k0_pay7 (F := Ideal) (k0_pay13 vv) (k0_pay15 k0_pay1 D k0_pay9 qv kv) (k0_pay17 k0_pay1 D k0_pay9 qv kv)
      (k0_pay18 k0_pay1 D k0_pay9 qv kv vv) (k0_pay20 k0_pay1 D k0_pay9 qv kv)
      (subf (k0_pay19 k0_pay1 D k0_pay9 qv kv) (broadcastTo S128x256 (k0_pay20 k0_pay1 D k0_pay9 qv kv) broadcasts_S128x1_S128x256))
      o m l (ix3 0 j x)
    = Ideal.div
      (Ideal.exp (m (ix2 j x) - max (m (ix2 j x)) (utop b qv kv j x)) * o (ix3 0 j x)
        + Ideal.exp (utop b qv kv j x - max (m (ix2 j x)) (utop b qv kv j x)) * unum b qv kv vv j x)
      (Ideal.exp (m (ix2 j x) - max (m (ix2 j x)) (utop b qv kv j x)) * l (ix2 j x)
        + Ideal.exp (utop b qv kv j x - max (m (ix2 j x)) (utop b qv kv j x)) * uden b qv kv j x) := by
  refine Eq.trans ?_ (congrArg₂ Ideal.div (pay40_read b qv kv vv D hD hb j x o m) (pay42_read b qv kv D hD hb j x m l))
  pointwise [k0_pay7, k0_pay40, k0_pay42, k0_pay39, k0_pay38, k0_pay37, k0_pay36, k0_pay35]

end

end Cert.KernelIdeal.Attn

end
-- ==== Proof.Ideal1.Window.lean ====
/- A unit's block computation is the attention's: the slots of its keys are those of the row's window, moved by half a
   window for the units at the sequence's start, whose keys begin at the sequence's first row. -/
module

public import proofs.«01_k».proof.Proof.Ideal1.Units

@[expose] public section

set_option maxRecDepth 16384

noncomputable section

namespace Cert.KernelIdeal.Attn

open Cert.KernelIdeal Cert.KernelIdeal.Gen Cert.Attn
open Idealize.ShloMosaic Idealize.ShloMosaic.TcCoe

/-- A window's rows in the head of lane `x`. -/
def rows (X : Vec Ideal S1x8192x128 .f32) (x : Fin 128) (s : Fin 8192) (e : Fin 64) : EReal := X (ix3 0 s (half x e))

/-- The entry of its head at lane `x`. -/
def entry (x : Fin 128) : Fin 64 := ⟨x.val % 64, Nat.mod_lt _ (by norm_num)⟩

theorem half_entry (x : Fin 128) : half x (entry x) = x := Fin.ext (by simp only [half, entry]; omega)

/-- The row offset of unit `i` of a residue, and how far its slots lie from the window's. -/
def offset (i : ℕ) : ℕ := if i = 0 then 0 else 128
def moved (i : ℕ) : Fin 256 := if i = 0 then 128 else 0

theorem offset_cases (i : ℕ) : offset i = 0 ∨ offset i = 128 := by unfold offset; split_ifs <;> simp

section

variable (d : ℕ) (hd : d = 1 ∨ d = 4 ∨ d = 16) (i r : ℕ) (s : Fin 8192) (j x : Fin 128) (hr : r < d)
  (hs : s.val = r + d * (128 * i + j.val)) (qv : QBlk) (kv vv : KBlk) (X0 X1 X2 : Vec Ideal S1x8192x128 .f32)
  (hq : ∀ y : Fin 128, qv (ix3 0 j y) = X0 (ix3 0 s y))
  (hk : ∀ (kk : Fin 256) (y : Fin 128) (t : Fin 8192), t.val = r + d * (128 * (i - 1) + kk.val) → kv (ix3 0 kk y) = X1 (ix3 0 t y))
  (hv : ∀ (kk : Fin 256) (y : Fin 128) (t : Fin 8192), t.val = r + d * (128 * (i - 1) + kk.val) → vv (ix3 0 kk y) = X2 (ix3 0 t y))

include hd hr hs

theorem place : s.val / d % 128 = j.val ∧ s.val / d / 128 = i := by
  have hj := j.isLt
  rcases hd with rfl | rfl | rfl <;> omega

theorem band_iff (kk : Fin 256) :
    (kk.val ≤ j.val + offset i ∧ j.val + offset i ≤ kk.val + 128) ↔ ok d s (kk + moved i) := by
  obtain ⟨h1, h2⟩ := place d hd i r s j hr hs
  have hj := j.isLt
  have hkk := kk.isLt
  unfold ok
  rw [h1, h2, Fin.val_add]
  unfold offset moved
  split_ifs with h
  · subst h
    show _ ↔ (((kk.val + 128) % 256 ≤ _ ∧ _) ∧ _)
    show _ ↔ (((kk.val + 128) % 256 ≤ j.val + 128 ∧ j.val ≤ (kk.val + 128) % 256) ∧ 128 ≤ 0 * 128 + (kk.val + 128) % 256)
    omega
  · show _ ↔ (((kk.val + 0) % 256 ≤ j.val + 128 ∧ j.val ≤ (kk.val + 0) % 256) ∧ 128 ≤ i * 128 + (kk.val + 0) % 256)
    omega

theorem key_place (kk : Fin 256) (h : kk.val ≤ j.val + offset i ∧ j.val + offset i ≤ kk.val + 128) :
    (keyAt d s (kk + moved i)).val = r + d * (128 * (i - 1) + kk.val) := by
  obtain ⟨h1, h2⟩ := place d hd i r s j hr hs
  have hj := j.isLt
  have hkk := kk.isLt
  have e : (keyAt d s (kk + moved i)).val = s.val - d * (j.val + 128 - (kk + moved i).val) := by
    unfold keyAt; dsimp only; rw [h1]
  rw [e, hs, Fin.val_add]
  unfold offset at h
  unfold moved
  split_ifs at h ⊢ with h0
  · subst h0
    show r + d * (128 * 0 + j.val) - d * (j.val + 128 - (kk.val + 128) % 256) = _
    rcases hd with rfl | rfl | rfl <;> omega
  · show r + d * (128 * i + j.val) - d * (j.val + 128 - (kk.val + 0) % 256) = _
    rcases hd with rfl | rfl | rfl <;> omega

include hq hk

theorem uscore_eq (kk : Fin 256) : uscore (offset i) qv kv j x kk = score (rows X0 x) (rows X1 x) d s (kk + moved i) := by
  unfold uscore score
  by_cases h : kk.val ≤ j.val + offset i ∧ j.val + offset i ≤ kk.val + 128
  · rw [if_pos h, if_pos ((band_iff d hd i r s j hr hs kk).mp h)]
    refine congrArg (· * eighth) (Finset.sum_congr rfl fun e _ => ?_)
    rw [hq, hk kk _ _ (key_place d hd i r s j hr hs kk h)]
    rfl
  · rw [if_neg h, if_neg fun h' => h ((band_iff d hd i r s j hr hs kk).mpr h')]

theorem utop_eq : utop (offset i) qv kv j x = top (rows X0 x) (rows X1 x) d s := by
  unfold utop top
  rw [show uscore (offset i) qv kv j x = score (rows X0 x) (rows X1 x) d s ∘ Equiv.addRight (moved i) from
    funext fun kk => uscore_eq d hd i r s j x hr hs qv kv X0 X1 hq hk kk]
  exact (Finset.fold_map (g := (Equiv.addRight (moved i)).toEmbedding)).symm.trans (by rw [Finset.map_univ_equiv])

theorem uweight_eq (kk : Fin 256) :
    uweight (offset i) qv kv j x kk = weight (rows X0 x) (rows X1 x) d s (kk + moved i) := by
  unfold uweight weight
  rw [uscore_eq d hd i r s j x hr hs qv kv X0 X1 hq hk, utop_eq d hd i r s j x hr hs qv kv X0 X1 hq hk]

theorem uden_eq : uden (offset i) qv kv j x = den (rows X0 x) (rows X1 x) d s := by
  unfold uden den
  exact (Finset.sum_congr rfl fun kk _ => uweight_eq d hd i r s j x hr hs qv kv X0 X1 hq hk kk).trans
    (Equiv.sum_comp (Equiv.addRight (moved i)) (weight (rows X0 x) (rows X1 x) d s))

include hv

theorem unum_eq : unum (offset i) qv kv vv j x = num (rows X0 x) (rows X1 x) (rows X2 x) d s (entry x) := by
  unfold unum num
  refine Eq.trans (Finset.sum_congr rfl fun kk _ => ?_) (Equiv.sum_comp (Equiv.addRight (moved i))
    fun kk => weight (rows X0 x) (rows X1 x) d s kk * rows X2 x (keyAt d s kk) (entry x))
  show _ = weight (rows X0 x) (rows X1 x) d s (kk + moved i) * rows X2 x (keyAt d s (kk + moved i)) (entry x)
  rw [uweight_eq d hd i r s j x hr hs qv kv X0 X1 hq hk]
  by_cases h : kk.val ≤ j.val + offset i ∧ j.val + offset i ≤ kk.val + 128
  · rw [hv kk x _ (key_place d hd i r s j hr hs kk h)]
    unfold rows
    rw [half_entry]
  · exact weight_outside _ _ (fun h' => h ((band_iff d hd i r s j hr hs kk).mpr h')) _ _

omit hq hk hv hd hr hs in
/-- The rows' distances from the keys, as a loop builds them. -/
theorem isDist_add (w : BitVec 32) (hw : w = BitVec.ofNat 32 (offset i)) : IsDist (offset i) (addi k0_pay2 (broadcast S128x256 w)) := by
  intro j kk
  rw [← hw]
  pointwise [k0_pay2]
  rfl

variable (D : IVec S128x256 32) (hD : IsDist (offset i) D)

include hD

/-- The first loop's payloads at a row and a lane. -/
theorem first_out :
    k0_pay4 (F := Ideal) (k0_pay13 vv) (k0_pay18 k0_pay1 D (broadcast S128x256 0#32) qv kv vv)
      (k0_pay19 k0_pay1 D (broadcast S128x256 0#32) qv kv) (k0_pay20 k0_pay1 D (broadcast S128x256 0#32) qv kv) (ix3 0 j x)
      = num (rows X0 x) (rows X1 x) (rows X2 x) d s (entry x) :=
  (pay4_read (offset i) qv kv vv D hD (offset_cases i) j x).trans (unum_eq d hd i r s j x hr hs qv kv vv X0 X1 X2 hq hk hv)

omit hv in
theorem first_top :
    k0_pay5 (F := Ideal) (k0_pay15 k0_pay1 D (broadcast S128x256 0#32) qv kv) (k0_pay20 k0_pay1 D (broadcast S128x256 0#32) qv kv) (ix2 j x)
      = top (rows X0 x) (rows X1 x) d s :=
  (pay5_read (offset i) qv kv D hD (offset_cases i) j x).trans (utop_eq d hd i r s j x hr hs qv kv X0 X1 hq hk)

omit hv in
theorem first_den :
    k0_pay6 (F := Ideal) (k0_pay17 k0_pay1 D (broadcast S128x256 0#32) qv kv) (k0_pay19 k0_pay1 D (broadcast S128x256 0#32) qv kv)
      (k0_pay20 k0_pay1 D (broadcast S128x256 0#32) qv kv) (ix2 j x)
      = den (rows X0 x) (rows X1 x) d s :=
  (pay6_read (offset i) qv kv D hD (offset_cases i) j x).trans (uden_eq d hd i r s j x hr hs qv kv X0 X1 hq hk)

variable (o : QBlk) (m l : Vec Ideal S128x128 .f32) (O M L : EReal) (ho : o (ix3 0 j x) = O) (hm : m (ix2 j x) = M) (hl : l (ix2 j x) = L)

include hm

omit hv in
/-- The second loop's payloads at a row and a lane. -/
theorem second_top :
    k0_pay41 (F := Ideal) k0_pay1 (k0_pay28 k0_pay1 D (cmpi .sge D (broadcast S128x256 0#32)) 128#32 qv kv)
      (k0_pay33 k0_pay1 D (cmpi .sge D (broadcast S128x256 0#32)) 128#32 qv kv) m (ix2 j x)
      = max M (top (rows X0 x) (rows X1 x) d s) := by
  rw [← hm, ← utop_eq d hd i r s j x hr hs qv kv X0 X1 hq hk]
  exact pay41_read (offset i) qv kv D hD (offset_cases i) j x m

include ho in
theorem second_out :
    k0_pay40 (F := Ideal) k0_pay1 (k0_pay26 vv) (k0_pay28 k0_pay1 D (cmpi .sge D (broadcast S128x256 0#32)) 128#32 qv kv)
      (k0_pay31 k0_pay1 D (cmpi .sge D (broadcast S128x256 0#32)) 128#32 qv kv vv)
      (k0_pay33 k0_pay1 D (cmpi .sge D (broadcast S128x256 0#32)) 128#32 qv kv)
      (k0_pay34 k0_pay1 D (cmpi .sge D (broadcast S128x256 0#32)) 128#32 qv kv) o m (ix3 0 j x)
      = Ideal.exp (M - max M (top (rows X0 x) (rows X1 x) d s)) * O
        + Ideal.exp (top (rows X0 x) (rows X1 x) d s - max M (top (rows X0 x) (rows X1 x) d s)) * num (rows X0 x) (rows X1 x) (rows X2 x) d s (entry x) := by
  rw [← ho, ← hm, ← utop_eq d hd i r s j x hr hs qv kv X0 X1 hq hk, ← unum_eq d hd i r s j x hr hs qv kv vv X0 X1 X2 hq hk hv]
  exact pay40_read (offset i) qv kv vv D hD (offset_cases i) j x o m

include hl in
omit hv in
theorem second_den :
    k0_pay42 (F := Ideal) k0_pay1 (k0_pay28 k0_pay1 D (cmpi .sge D (broadcast S128x256 0#32)) 128#32 qv kv)
      (k0_pay30 k0_pay1 D (cmpi .sge D (broadcast S128x256 0#32)) 128#32 qv kv)
      (k0_pay33 k0_pay1 D (cmpi .sge D (broadcast S128x256 0#32)) 128#32 qv kv)
      (k0_pay34 k0_pay1 D (cmpi .sge D (broadcast S128x256 0#32)) 128#32 qv kv) m l (ix2 j x)
      = Ideal.exp (M - max M (top (rows X0 x) (rows X1 x) d s)) * L
        + Ideal.exp (top (rows X0 x) (rows X1 x) d s - max M (top (rows X0 x) (rows X1 x) d s)) * den (rows X0 x) (rows X1 x) d s := by
  rw [← hl, ← hm, ← utop_eq d hd i r s j x hr hs qv kv X0 X1 hq hk, ← uden_eq d hd i r s j x hr hs qv kv X0 X1 hq hk]
  exact pay42_read (offset i) qv kv D hD (offset_cases i) j x m l

include ho hl in
/-- The third loop's payload at a row and a lane. -/
theorem third_out :
    k0_pay7 (F := Ideal) (k0_pay48 vv) (k0_pay50 k0_pay1 D (cmpi .sge D (broadcast S128x256 0#32)) 128#32 qv kv)
      (k0_pay52 k0_pay1 D (cmpi .sge D (broadcast S128x256 0#32)) 128#32 qv kv)
      (k0_pay53 k0_pay1 D (cmpi .sge D (broadcast S128x256 0#32)) 128#32 qv kv vv)
      (k0_pay55 k0_pay1 D (cmpi .sge D (broadcast S128x256 0#32)) 128#32 qv kv)
      (k0_pay56 k0_pay1 D (cmpi .sge D (broadcast S128x256 0#32)) 128#32 qv kv) o m l (ix3 0 j x)
      = Ideal.div
        (Ideal.exp (M - max M (top (rows X0 x) (rows X1 x) d s)) * O
          + Ideal.exp (top (rows X0 x) (rows X1 x) d s - max M (top (rows X0 x) (rows X1 x) d s)) * num (rows X0 x) (rows X1 x) (rows X2 x) d s (entry x))
        (Ideal.exp (M - max M (top (rows X0 x) (rows X1 x) d s)) * L
          + Ideal.exp (top (rows X0 x) (rows X1 x) d s - max M (top (rows X0 x) (rows X1 x) d s)) * den (rows X0 x) (rows X1 x) d s) := by
  rw [← ho, ← hm, ← hl, ← utop_eq d hd i r s j x hr hs qv kv X0 X1 hq hk, ← unum_eq d hd i r s j x hr hs qv kv vv X0 X1 X2 hq hk hv,
    ← uden_eq d hd i r s j x hr hs qv kv X0 X1 hq hk]
  exact pay7_read (offset i) qv kv vv D hD (offset_cases i) j x o m l

end

/-! ## Iterated writes -/

/-- Trips that each change only the places they own, read after all of them. -/
theorem iterate_read {S P T : Type} {n : ℕ} (step : Fin n → S → S) (w : P → ℕ) (g : S → P → T) (N : P → T → T)
    (hstep : ∀ u s p, g (step u s) p = if w p = u.val then N p (g s p) else g s p) (s : S) (p : P) :
    ∀ k, k ≤ n → g (iterate n step s k) p = if w p < k then N p (g s p) else g s p
  | 0, _ => by rw [iterate_zero, if_neg (Nat.not_lt_zero _)]
  | k + 1, h => by
    rw [show iterate n step s (k + 1) = step ⟨k, h⟩ (iterate n step s k) from iterate_succ step s ⟨k, h⟩, hstep,
      iterate_read step w g N hstep s p k (Nat.le_of_succ_le h)]
    dsimp only
    by_cases h1 : w p = k
    · rw [if_pos h1, if_neg (by omega), if_pos (by omega)]
    · rw [if_neg h1]
      by_cases h2 : w p < k
      · rw [if_pos h2, if_pos (by omega)]
      · rw [if_neg h2, if_neg (by omega)]

end Cert.KernelIdeal.Attn

end
-- ==== Proof.Ideal1.Steps.lean ====
/- One trip's writes, read at a row and a lane: the trip that owns the row leaves its block computation there, the
   others leave it alone. -/
module

public import proofs.«01_k».proof.Proof.Ideal1.Window

@[expose] public section

set_option maxRecDepth 16384

noncomputable section

namespace Cert.KernelIdeal.Attn

open Cert.KernelIdeal Cert.KernelIdeal.Gen Cert.Attn
open Idealize.ShloMosaic Idealize.ShloMosaic.TcCoe Idealize.SL.Sem

theorem off1 : ∀ u : Fin k0_t1_loop.trips, k0_off1 u = ![0, 128 * u.val, 0] := by decide +kernel
theorem off2 : ∀ u : Fin k0_t1_loop.trips, k0_off2 u = ![0, 128 * (u.val - 1), 0] := by decide +kernel
theorem off3 : ∀ u : Fin k0_t1_loop.trips, k0_off3 u = ![128 * u.val, 0] := by decide +kernel
theorem off4 : ∀ u : Fin k0_t2_loop.trips, k0_off4 u = ![0, u.val / 16 + 512 * (u.val % 16), 0] := by decide +kernel
theorem off5 : ∀ u : Fin k0_t2_loop.trips, k0_off5 u = ![0, u.val / 16 + 512 * (u.val % 16 - 1), 0] := by decide +kernel
theorem off6 : ∀ u : Fin k0_t2_loop.trips, k0_off6 u = ![u.val / 16 + 512 * (u.val % 16), 0] := by decide +kernel
theorem off7 : ∀ u : Fin k0_t3_loop.trips, k0_off7 u = ![0, u.val / 4 + 2048 * (u.val % 4), 0] := by decide +kernel
theorem off8 : ∀ u : Fin k0_t3_loop.trips, k0_off8 u = ![0, u.val / 4 + 2048 * (u.val % 4 - 1), 0] := by decide +kernel
theorem off9 : ∀ u : Fin k0_t3_loop.trips, k0_off9 u = ![u.val / 4 + 2048 * (u.val % 4), 0] := by decide +kernel

theorem move1 : ∀ u : Fin k0_t1_loop.trips, trip1.sl.v45 u = BitVec.ofNat 32 (offset u.val) := by decide +kernel
theorem move2 : ∀ u : Fin k0_t2_loop.trips, trip2.sl.v43 u = BitVec.ofNat 32 (offset (u.val % 16)) := by decide +kernel
theorem move3 : ∀ u : Fin k0_t3_loop.trips, trip3.sl.v43 u = BitVec.ofNat 32 (offset (u.val % 4)) := by decide +kernel

/-! ## Places -/

/-- Where a strided rectangle of rows puts its entry `j`, of three axes and of two. -/
theorem coords3 {n : ℕ} (off st : Fin 3 → ℕ) (a d : ℕ) (ho : off = ![0, a, 0]) (hst : ∀ b, st b = ![1, d, 1] b) (p : Fin 8192) (x : Fin 128)
    (j : Fin n) (hp : p.val = a + d * j.val) (b : Fin 3) :
    ((ix3 0 p x : S1x8192x128.Idx) b).val = off b + st b * ((ix3 0 j x : (⟨3, ![1, n, 128]⟩ : Shape).Idx) b).val := by
  rw [hst, ho]
  match b with
  | 0 => rfl
  | 1 => exact hp
  | 2 => show x.val = 0 + 1 * x.val; omega

theorem coords2 {n : ℕ} (off st : Fin 2 → ℕ) (a d : ℕ) (ho : off = ![a, 0]) (hst : ∀ b, st b = ![d, 1] b) (p : Fin 8192) (x : Fin 128)
    (j : Fin n) (hp : p.val = a + d * j.val) (b : Fin 2) :
    ((ix2 p x : S8192x128.Idx) b).val = off b + st b * ((ix2 j x : (⟨2, ![n, 128]⟩ : Shape).Idx) b).val := by
  rw [hst, ho]
  match b with
  | 0 => exact hp
  | 1 => show x.val = 0 + 1 * x.val; omega

/-- A load's entry is the buffer's at the place named by its coordinates. -/
theorem readAt_place {S : Shape} (m : Memref sig .tc .vmem S .f32) (f : BufTy.Contents (Elt Ideal) m.view.ty) (B : LoadRect S)
    (y : B.shape.Idx) (p : S.Idx) (h : ∀ a, (p a).val = B.off a + B.stride a * (y a).val) :
    View.readAt (Elt Ideal) m.view B f y = m.view.read (Elt Ideal) f p :=
  congrArg (m.view.read (Elt Ideal) f) (funext fun a => Fin.ext (h a).symm)

theorem unit3 (b : Fin 3) : (1 : ℕ) = ![1, 1, 1] b := by match b with | 0 | 1 | 2 => rfl
theorem unit2 (b : Fin 2) : (1 : ℕ) = ![1, 1] b := by match b with | 0 | 1 => rfl

/-- A load of rows from a window's buffer, entry by entry. -/
theorem load_row {n : ℕ} (m : Blk) (hm : m.IsWhole) (X : Vec Ideal S1x8192x128 .f32) (B : LoadRect S1x8192x128) {a d : ℕ}
    (ho : B.off = ![0, a, 0]) (hst : ∀ b, B.stride b = ![1, d, 1] b) (y : B.shape.Idx) (p : Fin 8192) (x : Fin 128) (j : Fin n)
    (hy : ∀ b : Fin 3, (y b).val = ((ix3 0 j x : (⟨3, ![1, n, 128]⟩ : Shape).Idx) b).val) (hp : p.val = a + d * j.val) :
    View.readAt (Elt Ideal) m.view B (hm.unread X) y = X (ix3 0 p x) := by
  rw [readAt_place m _ B y (ix3 0 p x) fun b => ?_, hm.read_unread]
  rw [hy b]
  exact coords3 B.off B.stride a d ho hst p x j hp b

/-- A place that a rectangle of rows does not hold. -/
theorem not_mem3 (r : Rect S1x8192x128) {a d : ℕ} (ho : r.off = ![0, a, 0]) (hst : r.stride 1 = d) (hsz : r.size 1 = 128) (p : Fin 8192) (x : Fin 128)
    (h : ∀ j : ℕ, j < 128 → p.val ≠ a + d * j) : (ix3 0 p x : S1x8192x128.Idx) ∉ r.set := fun hy => by
  obtain ⟨j, hj, e⟩ := r.mem_set.mp hy 1
  rw [ho, hst] at e
  rw [hsz] at hj
  exact h j hj e

theorem not_mem2 (r : Rect S8192x128) {a d : ℕ} (ho : r.off = ![a, 0]) (hst : r.stride 0 = d) (hsz : r.size 0 = 128) (p : Fin 8192) (x : Fin 128)
    (h : ∀ j : ℕ, j < 128 → p.val ≠ a + d * j) : (ix2 p x : S8192x128.Idx) ∉ r.set := fun hy => by
  obtain ⟨j, hj, e⟩ := r.mem_set.mp hy 0
  rw [ho, hst] at e
  rw [hsz] at hj
  exact h j hj e

/-! ## The trips -/

variable (c : Dev nD) (i : grid0.Coords) (q : Blk) (hq : q.IsWhole) (k : Blk) (hk : k.IsWhole) (v : Blk) (hv : v.IsWhole)
  (o : Blk) (ho : o.IsWhole) (mx : Scr) (hmx : mx.IsWhole) (dn : Scr) (hdn : dn.IsWhole)
  (X0 X1 X2 : Vec Ideal S1x8192x128 .f32)

/-- What the three written buffers hold at a row and a lane. -/
abbrev Cell : Type := EReal × EReal × EReal
def cell (s : State (F := Ideal) o mx dn) (p : Fin 8192 × Fin 128) : Cell :=
  (o.view.read (Elt Ideal) s.out (ix3 0 p.1 p.2), mx.view.read (Elt Ideal) s.mx (ix2 p.1 p.2), dn.view.read (Elt Ideal) s.dn (ix2 p.1 p.2))

/-- What the owning trip of each loop leaves at a row and a lane. -/
def new1 (p : Fin 8192 × Fin 128) (_ : Cell) : Cell :=
  (num (rows X0 p.2) (rows X1 p.2) (rows X2 p.2) 1 p.1 (entry p.2), top (rows X0 p.2) (rows X1 p.2) 1 p.1, den (rows X0 p.2) (rows X1 p.2) 1 p.1)
def new2 (p : Fin 8192 × Fin 128) (z : Cell) : Cell :=
  (Ideal.exp (z.2.1 - max z.2.1 (top (rows X0 p.2) (rows X1 p.2) 4 p.1)) * z.1
      + Ideal.exp (top (rows X0 p.2) (rows X1 p.2) 4 p.1 - max z.2.1 (top (rows X0 p.2) (rows X1 p.2) 4 p.1)) * num (rows X0 p.2) (rows X1 p.2) (rows X2 p.2) 4 p.1 (entry p.2),
    max z.2.1 (top (rows X0 p.2) (rows X1 p.2) 4 p.1),
    Ideal.exp (z.2.1 - max z.2.1 (top (rows X0 p.2) (rows X1 p.2) 4 p.1)) * z.2.2
      + Ideal.exp (top (rows X0 p.2) (rows X1 p.2) 4 p.1 - max z.2.1 (top (rows X0 p.2) (rows X1 p.2) 4 p.1)) * den (rows X0 p.2) (rows X1 p.2) 4 p.1)
def new3 (p : Fin 8192 × Fin 128) (z : Cell) : Cell :=
  (Ideal.div
    (Ideal.exp (z.2.1 - max z.2.1 (top (rows X0 p.2) (rows X1 p.2) 16 p.1)) * z.1
      + Ideal.exp (top (rows X0 p.2) (rows X1 p.2) 16 p.1 - max z.2.1 (top (rows X0 p.2) (rows X1 p.2) 16 p.1)) * num (rows X0 p.2) (rows X1 p.2) (rows X2 p.2) 16 p.1 (entry p.2))
    (Ideal.exp (z.2.1 - max z.2.1 (top (rows X0 p.2) (rows X1 p.2) 16 p.1)) * z.2.2
      + Ideal.exp (top (rows X0 p.2) (rows X1 p.2) 16 p.1 - max z.2.1 (top (rows X0 p.2) (rows X1 p.2) 16 p.1)) * den (rows X0 p.2) (rows X1 p.2) 16 p.1),
    z.2.1, z.2.2)

theorem step1_cell (u : Fin k0_t1_loop.trips) (s : State (F := Ideal) o mx dn) (p : Fin 8192 × Fin 128) :
    cell o mx dn (step1 c i q hq k hk v hv o ho mx hmx dn hdn (hq.unread X0) (hk.unread X1) (hv.unread X2) u s) p
      = if p.1.val / 128 = u.val then new1 X0 X1 X2 p (cell o mx dn s p) else cell o mx dn s p := by
  obtain ⟨p, x⟩ := p
  unfold cell step1 trip1
  dsimp only
  by_cases h : p.val / 128 = u.val
  · rw [if_pos h]
    have hp : p.val = 128 * u.val + 1 * (⟨p.val % 128, by omega⟩ : Fin 128).val := by dsimp only; omega
    generalize (⟨p.val % 128, by omega⟩ : Fin 128) = j at hp
    have hs : p.val = 0 + 1 * (128 * u.val + j.val) := by omega
    have hD : IsDist (offset u.val) (addi k0_pay2 (trip1.sl.v46 u)) := isDist_add u.val _ (move1 u)
    refine congrArg₂ Prod.mk ?_ (congrArg₂ Prod.mk ?_ ?_)
    · refine (View.read_writes_cons_hit_of_coords _ _ _ _ _ (ix3 0 j x) _ (coords3 _ _ _ 1 (off1 u) unit3 p x j hp)).trans ?_
      unfold trip1.sl.r trip1.sl.r_3 trip1.sl.r_4 trip1.sl.r_5 trip1.sl.v47 trip1.sl.v48
      exact first_out 1 (.inl rfl) u.val 0 p j x (by norm_num) hs _ _ _ X0 X1 X2
        (fun y => load_row q hq X0 _ (off1 u) unit3 _ p y j (fun _ => rfl) hp)
        (fun kk y t ht => load_row k hk X1 _ (off2 u) unit3 _ t y kk (fun _ => rfl) (by omega))
        (fun kk y t ht => load_row v hv X2 _ (off2 u) unit3 _ t y kk (fun _ => rfl) (by omega)) _ hD
    · refine (View.read_writes_cons_hit_of_coords _ _ _ _ _ (ix2 j x) _ (coords2 _ _ _ 1 (off3 u) unit2 p x j hp)).trans ?_
      unfold trip1.sl.r_1 trip1.sl.r_5 trip1.sl.v47 trip1.sl.v48
      exact first_top 1 (.inl rfl) u.val 0 p j x (by norm_num) hs _ _ X0 X1
        (fun y => load_row q hq X0 _ (off1 u) unit3 _ p y j (fun _ => rfl) hp)
        (fun kk y t ht => load_row k hk X1 _ (off2 u) unit3 _ t y kk (fun _ => rfl) (by omega)) _ hD
    · refine (View.read_writes_cons_hit_of_coords _ _ _ _ _ (ix2 j x) _ (coords2 _ _ _ 1 (off3 u) unit2 p x j hp)).trans ?_
      unfold trip1.sl.r_2 trip1.sl.r_4 trip1.sl.r_5 trip1.sl.v47 trip1.sl.v48
      exact first_den 1 (.inl rfl) u.val 0 p j x (by norm_num) hs _ _ X0 X1
        (fun y => load_row q hq X0 _ (off1 u) unit3 _ p y j (fun _ => rfl) hp)
        (fun kk y t ht => load_row k hk X1 _ (off2 u) unit3 _ t y kk (fun _ => rfl) (by omega)) _ hD
  · rw [if_neg h]
    have hm : ∀ j : ℕ, j < 128 → p.val ≠ 128 * u.val + 1 * j := fun j hj => by omega
    exact congrArg₂ Prod.mk (View.read_writes_cons_miss _ _ _ _ _ (not_mem3 _ (off1 u) rfl rfl p x hm))
      (congrArg₂ Prod.mk (View.read_writes_cons_miss _ _ _ _ _ (not_mem2 _ (off3 u) rfl rfl p x hm))
        (View.read_writes_cons_miss _ _ _ _ _ (not_mem2 _ (off3 u) rfl rfl p x hm)))

theorem step2_cell (u : Fin k0_t2_loop.trips) (s : State (F := Ideal) o mx dn) (p : Fin 8192 × Fin 128) :
    cell o mx dn (step2 c i q hq k hk v hv o ho mx hmx dn hdn (hq.unread X0) (hk.unread X1) (hv.unread X2) u s) p
      = if p.1.val % 4 * 16 + p.1.val / 4 / 128 = u.val then new2 X0 X1 X2 p (cell o mx dn s p) else cell o mx dn s p := by
  obtain ⟨p, x⟩ := p
  have hlt := p.isLt
  unfold cell step2 trip2
  dsimp only
  by_cases h : p.val % 4 * 16 + p.val / 4 / 128 = u.val
  · rw [if_pos h]
    have hp : p.val = (u.val / 16 + 512 * (u.val % 16)) + 4 * (⟨p.val / 4 % 128, by omega⟩ : Fin 128).val := by dsimp only; omega
    generalize (⟨p.val / 4 % 128, by omega⟩ : Fin 128) = j at hp
    have hs : p.val = u.val / 16 + 4 * (128 * (u.val % 16) + j.val) := by omega
    have hr : u.val / 16 < 4 := by omega
    have hD : IsDist (offset (u.val % 16)) (trip2.sl.v45 u) := isDist_add (u.val % 16) _ (move2 u)
    have hoo := readAt_place o s.out {off := k0_off4 u, size := ![1, 128, 128], stride := ![1, 4, 1], inb := k0_off4_inb u} (ix3 0 j x) (ix3 0 p x)
      (coords3 _ _ _ 4 (off4 u) (fun _ => rfl) p x j hp)
    have hmm := readAt_place mx s.mx {off := k0_off6 u, size := ![128, 128], stride := ![4, 1], inb := k0_off6_inb u} (ix2 j x) (ix2 p x)
      (coords2 _ _ _ 4 (off6 u) (fun _ => rfl) p x j hp)
    have hll := readAt_place dn s.dn {off := k0_off6 u, size := ![128, 128], stride := ![4, 1], inb := k0_off6_inb u} (ix2 j x) (ix2 p x)
      (coords2 _ _ _ 4 (off6 u) (fun _ => rfl) p x j hp)
    refine congrArg₂ Prod.mk ?_ (congrArg₂ Prod.mk ?_ ?_)
    · refine (View.read_writes_cons_hit_of_coords _ _ _ _ _ (ix3 0 j x) _ (coords3 _ _ _ 4 (off4 u) (fun _ => rfl) p x j hp)).trans ?_
      unfold trip2.sl.r trip2.sl.r_1 trip2.sl.r_3 trip2.sl.r_4 trip2.sl.r_5 trip2.sl.v47 trip2.sl.v46
      exact second_out 4 (.inr (.inl rfl)) (u.val % 16) (u.val / 16) p j x hr hs _ _ _ X0 X1 X2
        (fun y => load_row q hq X0 _ (off4 u) (fun _ => rfl) _ p y j (fun _ => rfl) hp)
        (fun kk y t ht => load_row k hk X1 _ (off5 u) (fun _ => rfl) _ t y kk (fun _ => rfl) (by omega))
        (fun kk y t ht => load_row v hv X2 _ (off5 u) (fun _ => rfl) _ t y kk (fun _ => rfl) (by omega)) _ hD _ _ _ _ hoo hmm
    · refine (View.read_writes_cons_hit_of_coords _ _ _ _ _ (ix2 j x) _ (coords2 _ _ _ 4 (off6 u) (fun _ => rfl) p x j hp)).trans ?_
      unfold trip2.sl.r_1 trip2.sl.r_4 trip2.sl.v47 trip2.sl.v46
      exact second_top 4 (.inr (.inl rfl)) (u.val % 16) (u.val / 16) p j x hr hs _ _ X0 X1
        (fun y => load_row q hq X0 _ (off4 u) (fun _ => rfl) _ p y j (fun _ => rfl) hp)
        (fun kk y t ht => load_row k hk X1 _ (off5 u) (fun _ => rfl) _ t y kk (fun _ => rfl) (by omega)) _ hD _ _ hmm
    · refine (View.read_writes_cons_hit_of_coords _ _ _ _ _ (ix2 j x) _ (coords2 _ _ _ 4 (off6 u) (fun _ => rfl) p x j hp)).trans ?_
      unfold trip2.sl.r_6 trip2.sl.r_1 trip2.sl.r_2 trip2.sl.r_4 trip2.sl.r_5 trip2.sl.v47 trip2.sl.v46
      exact second_den 4 (.inr (.inl rfl)) (u.val % 16) (u.val / 16) p j x hr hs _ _ X0 X1
        (fun y => load_row q hq X0 _ (off4 u) (fun _ => rfl) _ p y j (fun _ => rfl) hp)
        (fun kk y t ht => load_row k hk X1 _ (off5 u) (fun _ => rfl) _ t y kk (fun _ => rfl) (by omega)) _ hD _ _ _ _ hmm hll
  · rw [if_neg h]
    have hu : u.val < 64 := Nat.lt_of_lt_of_le u.isLt k0_t2_abs.2.1
    have hm : ∀ j : ℕ, j < 128 → p.val ≠ (u.val / 16 + 512 * (u.val % 16)) + 4 * j := fun j hj e => by
      have e1 : p.val % 4 = u.val / 16 := by omega
      have e2 : p.val / 4 = 128 * (u.val % 16) + j := by omega
      omega
    exact congrArg₂ Prod.mk (View.read_writes_cons_miss _ _ _ _ _ (not_mem3 _ (off4 u) rfl rfl p x hm))
      (congrArg₂ Prod.mk (View.read_writes_cons_miss _ _ _ _ _ (not_mem2 _ (off6 u) rfl rfl p x hm))
        (View.read_writes_cons_miss _ _ _ _ _ (not_mem2 _ (off6 u) rfl rfl p x hm)))

theorem step3_cell (u : Fin k0_t3_loop.trips) (s : State (F := Ideal) o mx dn) (p : Fin 8192 × Fin 128) :
    cell o mx dn (step3 c i q hq k hk v hv o ho mx hmx dn hdn (hq.unread X0) (hk.unread X1) (hv.unread X2) u s) p
      = if p.1.val % 16 * 4 + p.1.val / 16 / 128 = u.val then new3 X0 X1 X2 p (cell o mx dn s p) else cell o mx dn s p := by
  obtain ⟨p, x⟩ := p
  have hlt := p.isLt
  unfold cell step3 trip3
  dsimp only
  by_cases h : p.val % 16 * 4 + p.val / 16 / 128 = u.val
  · rw [if_pos h]
    have hp : p.val = (u.val / 4 + 2048 * (u.val % 4)) + 16 * (⟨p.val / 16 % 128, by omega⟩ : Fin 128).val := by dsimp only; omega
    generalize (⟨p.val / 16 % 128, by omega⟩ : Fin 128) = j at hp
    have hs : p.val = u.val / 4 + 16 * (128 * (u.val % 4) + j.val) := by omega
    have hr : u.val / 4 < 16 := by omega
    have hD : IsDist (offset (u.val % 4)) (trip3.sl.v45 u) := isDist_add (u.val % 4) _ (move3 u)
    refine congrArg₂ Prod.mk ?_ rfl
    refine (View.read_writes_cons_hit_of_coords _ _ _ _ _ (ix3 0 j x) _ (coords3 _ _ _ 16 (off7 u) (fun _ => rfl) p x j hp)).trans ?_
    unfold trip3.sl.r trip3.sl.r_1 trip3.sl.r_2 trip3.sl.r_3 trip3.sl.r_4 trip3.sl.r_5 trip3.sl.v47 trip3.sl.v46
    exact third_out 16 (.inr (.inr rfl)) (u.val % 4) (u.val / 4) p j x hr hs _ _ _ X0 X1 X2
      (fun y => load_row q hq X0 _ (off7 u) (fun _ => rfl) _ p y j (fun _ => rfl) hp)
      (fun kk y t ht => load_row k hk X1 _ (off8 u) (fun _ => rfl) _ t y kk (fun _ => rfl) (by omega))
      (fun kk y t ht => load_row v hv X2 _ (off8 u) (fun _ => rfl) _ t y kk (fun _ => rfl) (by omega)) _ hD _ _ _ _ _ _
      (readAt_place o s.out _ _ (ix3 0 p x) (coords3 _ _ _ 16 (off7 u) (fun _ => rfl) p x j hp))
      (readAt_place mx s.mx _ _ (ix2 p x) (coords2 _ _ _ 16 (off9 u) (fun _ => rfl) p x j hp))
      (readAt_place dn s.dn _ _ (ix2 p x) (coords2 _ _ _ 16 (off9 u) (fun _ => rfl) p x j hp))
  · rw [if_neg h]
    have hu : u.val < 64 := Nat.lt_of_lt_of_le u.isLt k0_t3_abs.2.1
    have hm : ∀ j : ℕ, j < 128 → p.val ≠ (u.val / 4 + 2048 * (u.val % 4)) + 16 * j := fun j hj e => by
      have e1 : p.val % 16 = u.val / 4 := by omega
      have e2 : p.val / 16 = 128 * (u.val % 4) + j := by omega
      omega
    exact congrArg₂ Prod.mk (View.read_writes_cons_miss _ _ _ _ _ (not_mem3 _ (off7 u) rfl rfl p x hm)) rfl

/-! ## The whole body -/

theorem trips1 : k0_t1_loop.trips = 64 := by decide +kernel
theorem trips2 : k0_t2_loop.trips = 64 := by decide +kernel
theorem trips3 : k0_t3_loop.trips = 64 := by decide +kernel

theorem left_eq (s : State (F := Ideal) o mx dn) (p : Fin 8192) (x : Fin 128) :
    left c i q hq k hk v hv o ho mx hmx dn hdn X0 X1 X2 s (ix3 0 p x) = result (rows X0 x) (rows X1 x) (rows X2 x) p (entry x) := by
  have hlt := p.isLt
  have h3 := iterate_read _ (fun z : Fin 8192 × Fin 128 => z.1.val % 16 * 4 + z.1.val / 16 / 128) (cell o mx dn) (new3 X0 X1 X2)
    (step3_cell c i q hq k hk v hv o ho mx hmx dn hdn X0 X1 X2)
    (after2 c i q hq k hk v hv o ho mx hmx dn hdn (hq.unread X0) (hk.unread X1) (hv.unread X2)
      (after1 c i q hq k hk v hv o ho mx hmx dn hdn (hq.unread X0) (hk.unread X1) (hv.unread X2) s)) (p, x) _ le_rfl
  have h2 := iterate_read _ (fun z : Fin 8192 × Fin 128 => z.1.val % 4 * 16 + z.1.val / 4 / 128) (cell o mx dn) (new2 X0 X1 X2)
    (step2_cell c i q hq k hk v hv o ho mx hmx dn hdn X0 X1 X2)
    (after1 c i q hq k hk v hv o ho mx hmx dn hdn (hq.unread X0) (hk.unread X1) (hv.unread X2) s) (p, x) _ le_rfl
  have h1 := iterate_read _ (fun z : Fin 8192 × Fin 128 => z.1.val / 128) (cell o mx dn) (new1 X0 X1 X2)
    (step1_cell c i q hq k hk v hv o ho mx hmx dn hdn X0 X1 X2) s (p, x) _ le_rfl
  rw [if_pos (show p.val % 16 * 4 + p.val / 16 / 128 < k0_t3_loop.trips from Nat.lt_of_lt_of_eq (by omega) trips3.symm)] at h3
  rw [if_pos (show p.val % 4 * 16 + p.val / 4 / 128 < k0_t2_loop.trips from Nat.lt_of_lt_of_eq (by omega) trips2.symm)] at h2
  rw [if_pos (show p.val / 128 < k0_t1_loop.trips from Nat.lt_of_lt_of_eq (by omega) trips1.symm)] at h1
  have e := h3.trans (congrArg (new3 X0 X1 X2 (p, x)) (h2.trans (congrArg (new2 X0 X1 X2 (p, x)) h1)))
  refine (congrArg Prod.fst e).trans ?_
  unfold new3 new2 new1
  dsimp only
  rw [joined, joined]
  rfl

end Cert.KernelIdeal.Attn

end
-- ==== Proof.Ideal1.Reference.lean ====
/- The reference's banded attention, read entry by entry over the ideal values: it is the attention of `Spec`. -/
module

public import proofs.«01_k».proof.Proof.Gen.ReferenceIdeal.Run
public import proofs.«01_k».proof.Proof.Ideal1.Spec

@[expose] public section

set_option maxRecDepth 16384

noncomputable section

namespace Cert.ReferenceIdeal.Attn

open Cert.ReferenceIdeal Cert.ReferenceIdeal.Gen Cert.ReferenceIdeal.Value Cert.Attn
open Idealize.ShloMosaic Idealize.ShloMosaic.TcCoe

/-- The projections' array, and one head's queries, keys and values in it. -/
abbrev Proj : Type := FVec Ideal S4x8192x4096 .f32
def qh (z : Proj) (B : Fin 4) (h : Fin 16) (s : Fin 8192) (e : Fin 64) : EReal :=
  z (ix3 B s ⟨h.val * 64 + e.val, by have := h.isLt; have := e.isLt; omega⟩)
def kh (z : Proj) (B : Fin 4) (h : Fin 16) (s : Fin 8192) (e : Fin 64) : EReal :=
  z (ix3 B s ⟨1024 + (h.val * 64 + e.val), by have := h.isLt; have := e.isLt; omega⟩)
def vh (z : Proj) (B : Fin 4) (h : Fin 16) (s : Fin 8192) (e : Fin 64) : EReal :=
  z (ix3 B s ⟨2048 + (h.val * 64 + e.val), by have := h.isLt; have := e.isLt; omega⟩)

variable (V0 : Valuation τ sig (Elt Ideal))

abbrev arg : Proj := V0 (Proc.devRef .tc main_arg0)

theorem q_read (B : Fin 4) (s : Fin 8192) (h : Fin 16) (e : Fin 64) :
    (res_main_v1 V0 : FVec Ideal S4x8192x16x64 .f32) (ix4 B s h e) = qh (arg V0) B h s e := by
  pointwise [res_main_v1]; rfl
theorem k_read (B : Fin 4) (s : Fin 8192) (h : Fin 16) (e : Fin 64) :
    (res_main_v3 V0 : FVec Ideal S4x8192x16x64 .f32) (ix4 B s h e) = kh (arg V0) B h s e := by
  pointwise [res_main_v3]; rfl
theorem v_read (B : Fin 4) (s : Fin 8192) (h : Fin 16) (e : Fin 64) :
    (res_main_v5 V0 : FVec Ideal S4x8192x16x64 .f32) (ix4 B s h e) = vh (arg V0) B h s e := by
  pointwise [res_main_v5]; rfl

/-- The three comparisons of the reference's mask. -/
theorem band (b j kk : ℕ) (hb : b < 64) (hj : j < 128) (hk : kk < 256) (x y : EReal) :
    Scalar.select (IntOp.andi (IntOp.andi
        (IntOp.cmpi .sge (IntOp.subi (IntOp.addi (BitVec.ofNat 32 j) 128#32) (BitVec.ofNat 32 kk)) 0#32)
        (IntOp.cmpi .sle (IntOp.subi (IntOp.addi (BitVec.ofNat 32 j) 128#32) (BitVec.ofNat 32 kk)) 128#32))
        (IntOp.cmpi .sge (IntOp.subi (IntOp.addi (IntOp.muli (BitVec.ofNat 32 b) 128#32) (BitVec.ofNat 32 kk)) 128#32) 0#32)) x y
      = if (kk ≤ j + 128 ∧ j ≤ kk) ∧ 128 ≤ b * 128 + kk then x else y := by
  have h128 : (128#32).toInt = 128 := rfl
  have hz : (0#32).toInt = 0 := rfl
  have h1 : (IntOp.subi (IntOp.addi (BitVec.ofNat 32 j) 128#32) (BitVec.ofNat 32 kk)).toInt = (j : ℤ) + 128 - kk := by
    show (BitVec.ofNat 32 j + 128#32 - BitVec.ofNat 32 kk).toInt = _
    rw [BitVec.toInt_sub, BitVec.toInt_add, word_int _ (by omega), word_int _ (by omega), word_int _ (by omega), Int.bmod_def, Int.bmod_def]
    omega
  have h2 : (IntOp.subi (IntOp.addi (IntOp.muli (BitVec.ofNat 32 b) 128#32) (BitVec.ofNat 32 kk)) 128#32).toInt = (b : ℤ) * 128 + kk - 128 := by
    show (BitVec.ofNat 32 b * BitVec.ofNat 32 128 + BitVec.ofNat 32 kk - 128#32).toInt = _
    rw [← BitVec.ofNat_mul, BitVec.toInt_sub, BitVec.toInt_add, word_int _ (by omega), word_int _ (by omega), word_int _ (by omega), Int.bmod_def, Int.bmod_def]
    omega
  generalize IntOp.subi (IntOp.addi (BitVec.ofNat 32 j) 128#32) (BitVec.ofNat 32 kk) = w at h1
  generalize IntOp.subi (IntOp.addi (IntOp.muli (BitVec.ofNat 32 b) 128#32) (BitVec.ofNat 32 kk)) 128#32 = w' at h2
  have e1 : decide ((0 : ℤ) ≤ (j : ℤ) + 128 - kk) = decide (kk ≤ j + 128) := decide_eq_decide.mpr (by omega)
  have e2 : decide ((j : ℤ) + 128 - kk ≤ 128) = decide (j ≤ kk) := decide_eq_decide.mpr (by omega)
  have e3 : decide ((0 : ℤ) ≤ (b : ℤ) * 128 + kk - 128) = decide (128 ≤ b * 128 + kk) := decide_eq_decide.mpr (by omega)
  simp only [IntOp.andi, IntOp.cmpi, Scalar.select, BitVec.sle, h1, h2, h128, hz, e1, e2, e3]
  by_cases c1 : kk ≤ j + 128 <;> by_cases c2 : j ≤ kk <;> by_cases c3 : 128 ≤ b * 128 + kk <;> simp [c1, c2, c3]

/-! ## Dilation 1 -/

/-- The largest entry of a window. -/
theorem max1 (v : FVec Ideal S4x16x64x128x256 .f32) (B : Fin 4) (h : Fin 16) (b : Fin 64) (j : Fin 128) :
    Host.reduce FloatOps.maximumf v (constant S_ .f32 0xFF800000#32) reducesTo_S4x16x64x128x256_S4x16x64x128_d4 h_S_ (ix4 B h b j)
      = Finset.univ.fold max low fun kk => v (ix5 B h b j kk) := by
  pointwise

theorem score1 (B : Fin 4) (h : Fin 16) (b : Fin 64) (j : Fin 128) (kk : Fin 256) (s : Fin 8192)
    (hs : b.val * 128 + j.val = s.val) :
    (res_main_v63 V0 : FVec Ideal S4x16x64x128x256 .f32) (ix5 B h b j kk) = score (qh (arg V0) B h) (kh (arg V0) B h) 1 s kk := by
  have hs' : b.val * 128 + j.val < 8192 := by clear hs; omega
  obtain rfl : s = ⟨_, hs'⟩ := Fin.ext hs.symm
  pointwise [res_main_v63, res_main_v41, res_main_v36, res_main_v17]
  rw [band b.val j.val kk.val (by omega) j.isLt kk.isLt, score]
  by_cases hk : (kk.val ≤ j.val + 128 ∧ j.val ≤ kk.val) ∧ 128 ≤ b.val * 128 + kk.val
  · rw [if_pos hk, if_pos (by unfold ok; dsimp only; omega)]
    refine congrArg (· * eighth) (Finset.sum_congr rfl fun e _ => ?_)
    rw [q_read]
    refine congrArg (_ * ·) ?_
    by_cases h1 : kk.val < 128
    · rw [dif_pos h1, dif_neg (by omega), k_read]; exact congrArg (fun t => kh (arg V0) _ h t e) (Fin.ext (by unfold keyAt; dsimp only; omega))
    · rw [dif_neg h1, k_read]; exact congrArg (fun t => kh (arg V0) _ h t e) (Fin.ext (by unfold keyAt; dsimp only; omega))
  · rw [if_neg hk, if_neg (by unfold ok; dsimp only; omega)]; rfl

theorem top1 (B : Fin 4) (h : Fin 16) (b : Fin 64) (j : Fin 128) (s : Fin 8192)
    (hs : b.val * 128 + j.val = s.val) :
    (res_main_v64 V0 : FVec Ideal S4x16x64x128 .f32) (ix4 B h b j) = top (qh (arg V0) B h) (kh (arg V0) B h) 1 s := by
  refine (max1 (res_main_v63 V0) B h b j).trans ?_
  rw [top]
  exact congrArg (Finset.univ.fold max low) (funext fun kk => score1 V0 B h b j kk s hs)

theorem weight1 (B : Fin 4) (h : Fin 16) (b : Fin 64) (j : Fin 128) (kk : Fin 256) (s : Fin 8192)
    (hs : b.val * 128 + j.val = s.val) :
    (res_main_v68 V0 : FVec Ideal S4x16x64x128x256 .f32) (ix5 B h b j kk) = weight (qh (arg V0) B h) (kh (arg V0) B h) 1 s kk := by
  pointwise [res_main_v68]
  rw [score1 V0 B h b j kk s hs, top1 V0 B h b j s hs]; rfl

/-- The value in a slot inside the band. -/
theorem value1 (B : Fin 4) (h : Fin 16) (b : Fin 64) (j : Fin 128) (kk : Fin 256) (s : Fin 8192)
    (hs : b.val * 128 + j.val = s.val)
    (hk : ok 1 s kk) (p : Fin 8320) (hp : p.val = b.val * 128 + kk.val) (e : Fin 64) :
    (res_main_v19 V0 : FVec Ideal S4x16x8320x64 .f32) (ix4 B h p e) = vh (arg V0) B h (keyAt 1 s kk) e := by
  have hs' : b.val * 128 + j.val < 8192 := by clear hs; omega
  obtain rfl : s = ⟨_, hs'⟩ := Fin.ext hs.symm
  unfold ok at hk
  dsimp only at hk
  pointwise [res_main_v19]
  rw [dif_neg (by omega), v_read]
  exact congrArg (fun t => vh (arg V0) _ h t e) (Fin.ext (by unfold keyAt; dsimp only; omega))

/-! ## Dilation 4 -/

/-- The largest entry of a window. -/
theorem max4 (v : FVec Ideal S16x16x16x128x256 .f32) (n : Fin 16) (h : Fin 16) (b : Fin 16) (j : Fin 128) :
    Host.reduce FloatOps.maximumf v (constant S_ .f32 0xFF800000#32) reducesTo_S16x16x16x128x256_S16x16x16x128_d4 h_S_ (ix4 n h b j)
      = Finset.univ.fold max low fun kk => v (ix5 n h b j kk) := by
  pointwise

theorem score4 (n : Fin 16) (h : Fin 16) (b : Fin 16) (j : Fin 128) (kk : Fin 256) (B : Fin 4) (s : Fin 8192)
    (hB : n.val / 4 = B.val) (hs : (b.val * 128 + j.val) * 4 + n.val % 4 = s.val) :
    (res_main_v140 V0 : FVec Ideal S16x16x16x128x256 .f32) (ix5 n h b j kk) = score (qh (arg V0) B h) (kh (arg V0) B h) 4 s kk := by
  have hB' : n.val / 4 < 4 := by clear hB; omega
  have hs' : (b.val * 128 + j.val) * 4 + n.val % 4 < 8192 := by clear hs; omega
  obtain rfl : B = ⟨_, hB'⟩ := Fin.ext hB.symm
  obtain rfl : s = ⟨_, hs'⟩ := Fin.ext hs.symm
  pointwise [res_main_v140, res_main_v118, res_main_v113, res_main_v94]
  rw [band b.val j.val kk.val (by omega) j.isLt kk.isLt, score]
  by_cases hk : (kk.val ≤ j.val + 128 ∧ j.val ≤ kk.val) ∧ 128 ≤ b.val * 128 + kk.val
  · rw [if_pos hk, if_pos (by unfold ok; dsimp only; omega)]
    refine congrArg (· * eighth) (Finset.sum_congr rfl fun e _ => ?_)
    rw [q_read]
    refine congrArg (_ * ·) ?_
    by_cases h1 : kk.val < 128
    · rw [dif_pos h1, dif_neg (by omega), k_read]; exact congrArg (fun t => kh (arg V0) _ h t e) (Fin.ext (by unfold keyAt; dsimp only; omega))
    · rw [dif_neg h1, k_read]; exact congrArg (fun t => kh (arg V0) _ h t e) (Fin.ext (by unfold keyAt; dsimp only; omega))
  · rw [if_neg hk, if_neg (by unfold ok; dsimp only; omega)]; rfl

theorem top4 (n : Fin 16) (h : Fin 16) (b : Fin 16) (j : Fin 128) (B : Fin 4) (s : Fin 8192)
    (hB : n.val / 4 = B.val) (hs : (b.val * 128 + j.val) * 4 + n.val % 4 = s.val) :
    (res_main_v141 V0 : FVec Ideal S16x16x16x128 .f32) (ix4 n h b j) = top (qh (arg V0) B h) (kh (arg V0) B h) 4 s := by
  refine (max4 (res_main_v140 V0) n h b j).trans ?_
  rw [top]
  exact congrArg (Finset.univ.fold max low) (funext fun kk => score4 V0 n h b j kk B s hB hs)

theorem weight4 (n : Fin 16) (h : Fin 16) (b : Fin 16) (j : Fin 128) (kk : Fin 256) (B : Fin 4) (s : Fin 8192)
    (hB : n.val / 4 = B.val) (hs : (b.val * 128 + j.val) * 4 + n.val % 4 = s.val) :
    (res_main_v145 V0 : FVec Ideal S16x16x16x128x256 .f32) (ix5 n h b j kk) = weight (qh (arg V0) B h) (kh (arg V0) B h) 4 s kk := by
  pointwise [res_main_v145]
  rw [score4 V0 n h b j kk B s hB hs, top4 V0 n h b j B s hB hs]; rfl

/-- The value in a slot inside the band. -/
theorem value4 (n : Fin 16) (h : Fin 16) (b : Fin 16) (j : Fin 128) (kk : Fin 256) (B : Fin 4) (s : Fin 8192)
    (hB : n.val / 4 = B.val) (hs : (b.val * 128 + j.val) * 4 + n.val % 4 = s.val)
    (hk : ok 4 s kk) (p : Fin 2176) (hp : p.val = b.val * 128 + kk.val) (e : Fin 64) :
    (res_main_v96 V0 : FVec Ideal S16x16x2176x64 .f32) (ix4 n h p e) = vh (arg V0) B h (keyAt 4 s kk) e := by
  have hB' : n.val / 4 < 4 := by clear hB; omega
  have hs' : (b.val * 128 + j.val) * 4 + n.val % 4 < 8192 := by clear hs; omega
  obtain rfl : B = ⟨_, hB'⟩ := Fin.ext hB.symm
  obtain rfl : s = ⟨_, hs'⟩ := Fin.ext hs.symm
  unfold ok at hk
  dsimp only at hk
  pointwise [res_main_v96]
  rw [dif_neg (by omega), v_read]
  exact congrArg (fun t => vh (arg V0) _ h t e) (Fin.ext (by unfold keyAt; dsimp only; omega))

/-! ## Dilation 16 -/

/-- The largest entry of a window. -/
theorem max16 (v : FVec Ideal S64x16x4x128x256 .f32) (n : Fin 64) (h : Fin 16) (b : Fin 4) (j : Fin 128) :
    Host.reduce FloatOps.maximumf v (constant S_ .f32 0xFF800000#32) reducesTo_S64x16x4x128x256_S64x16x4x128_d4 h_S_ (ix4 n h b j)
      = Finset.univ.fold max low fun kk => v (ix5 n h b j kk) := by
  pointwise

theorem score16 (n : Fin 64) (h : Fin 16) (b : Fin 4) (j : Fin 128) (kk : Fin 256) (B : Fin 4) (s : Fin 8192)
    (hB : n.val / 16 = B.val) (hs : (b.val * 128 + j.val) * 16 + n.val % 16 = s.val) :
    (res_main_v217 V0 : FVec Ideal S64x16x4x128x256 .f32) (ix5 n h b j kk) = score (qh (arg V0) B h) (kh (arg V0) B h) 16 s kk := by
  have hB' : n.val / 16 < 4 := by clear hB; omega
  have hs' : (b.val * 128 + j.val) * 16 + n.val % 16 < 8192 := by clear hs; omega
  obtain rfl : B = ⟨_, hB'⟩ := Fin.ext hB.symm
  obtain rfl : s = ⟨_, hs'⟩ := Fin.ext hs.symm
  pointwise [res_main_v217, res_main_v195, res_main_v190, res_main_v171]
  rw [band b.val j.val kk.val (by omega) j.isLt kk.isLt, score]
  by_cases hk : (kk.val ≤ j.val + 128 ∧ j.val ≤ kk.val) ∧ 128 ≤ b.val * 128 + kk.val
  · rw [if_pos hk, if_pos (by unfold ok; dsimp only; omega)]
    refine congrArg (· * eighth) (Finset.sum_congr rfl fun e _ => ?_)
    rw [q_read]
    refine congrArg (_ * ·) ?_
    by_cases h1 : kk.val < 128
    · rw [dif_pos h1, dif_neg (by omega), k_read]; exact congrArg (fun t => kh (arg V0) _ h t e) (Fin.ext (by unfold keyAt; dsimp only; omega))
    · rw [dif_neg h1, k_read]; exact congrArg (fun t => kh (arg V0) _ h t e) (Fin.ext (by unfold keyAt; dsimp only; omega))
  · rw [if_neg hk, if_neg (by unfold ok; dsimp only; omega)]; rfl

theorem top16 (n : Fin 64) (h : Fin 16) (b : Fin 4) (j : Fin 128) (B : Fin 4) (s : Fin 8192)
    (hB : n.val / 16 = B.val) (hs : (b.val * 128 + j.val) * 16 + n.val % 16 = s.val) :
    (res_main_v218 V0 : FVec Ideal S64x16x4x128 .f32) (ix4 n h b j) = top (qh (arg V0) B h) (kh (arg V0) B h) 16 s := by
  refine (max16 (res_main_v217 V0) n h b j).trans ?_
  rw [top]
  exact congrArg (Finset.univ.fold max low) (funext fun kk => score16 V0 n h b j kk B s hB hs)

theorem weight16 (n : Fin 64) (h : Fin 16) (b : Fin 4) (j : Fin 128) (kk : Fin 256) (B : Fin 4) (s : Fin 8192)
    (hB : n.val / 16 = B.val) (hs : (b.val * 128 + j.val) * 16 + n.val % 16 = s.val) :
    (res_main_v222 V0 : FVec Ideal S64x16x4x128x256 .f32) (ix5 n h b j kk) = weight (qh (arg V0) B h) (kh (arg V0) B h) 16 s kk := by
  pointwise [res_main_v222]
  rw [score16 V0 n h b j kk B s hB hs, top16 V0 n h b j B s hB hs]; rfl

/-- The value in a slot inside the band. -/
theorem value16 (n : Fin 64) (h : Fin 16) (b : Fin 4) (j : Fin 128) (kk : Fin 256) (B : Fin 4) (s : Fin 8192)
    (hB : n.val / 16 = B.val) (hs : (b.val * 128 + j.val) * 16 + n.val % 16 = s.val)
    (hk : ok 16 s kk) (p : Fin 640) (hp : p.val = b.val * 128 + kk.val) (e : Fin 64) :
    (res_main_v173 V0 : FVec Ideal S64x16x640x64 .f32) (ix4 n h p e) = vh (arg V0) B h (keyAt 16 s kk) e := by
  have hB' : n.val / 16 < 4 := by clear hB; omega
  have hs' : (b.val * 128 + j.val) * 16 + n.val % 16 < 8192 := by clear hs; omega
  obtain rfl : B = ⟨_, hB'⟩ := Fin.ext hB.symm
  obtain rfl : s = ⟨_, hs'⟩ := Fin.ext hs.symm
  unfold ok at hk
  dsimp only at hk
  pointwise [res_main_v173]
  rw [dif_neg (by omega), v_read]
  exact congrArg (fun t => vh (arg V0) _ h t e) (Fin.ext (by unfold keyAt; dsimp only; omega))

/-! ## The three dilations together -/

theorem maxStack (v : FVec Ideal S3x4x8192x16 .f32) (B : Fin 4) (s : Fin 8192) (h : Fin 16) :
    Host.reduce FloatOps.maximumf v (constant S_ .f32 0xFF800000#32) reducesTo_S3x4x8192x16_S4x8192x16_d0 h_S_ (ix3 B s h)
      = max (max (v (ix4 0 B s h)) (v (ix4 1 B s h))) (v (ix4 2 B s h)) := by
  have e : Host.reduce FloatOps.maximumf v (constant S_ .f32 0xFF800000#32) reducesTo_S3x4x8192x16_S4x8192x16_d0 h_S_ (ix3 B s h)
      = Finset.univ.fold max low fun i : Fin 3 => v (ix4 i B s h) := by
    pointwise
  rw [e, fold_three]

theorem spread (X : FVec Ideal S3x4x8192x16 .f32) (M : FVec Ideal S4x8192x16 .f32) (i : Fin 3) (B : Fin 4) (s : Fin 8192) (h : Fin 16) :
    Host.exp (subf X (broadcastInDim S3x4x8192x16 ![0, 1, 2, 3] bcast_S1x4x8192x16_S3x4x8192x16_0_1_2_3
        (broadcastInDim S1x4x8192x16 ![1, 2, 3] bcast_S4x8192x16_S1x4x8192x16_1_2_3 M))) (ix4 i B s h)
      = Ideal.exp (X (ix4 i B s h) - M (ix3 B s h)) := by
  pointwise

section Rows

variable (B : Fin 4) (s : Fin 8192) (h : Fin 16)

theorem stack1 : (res_main_v240 V0 : FVec Ideal S3x4x8192x16 .f32) (ix4 0 B s h) = top (qh (arg V0) B h) (kh (arg V0) B h) 1 s := by
  pointwise [res_main_v240]
  exact top1 V0 B h _ _ s (by dsimp only; omega)

theorem stack4 : (res_main_v240 V0 : FVec Ideal S3x4x8192x16 .f32) (ix4 1 B s h) = top (qh (arg V0) B h) (kh (arg V0) B h) 4 s := by
  pointwise [res_main_v240]
  exact top4 V0 _ h _ _ B s (by dsimp only; omega) (by dsimp only; omega)

theorem stack16 : (res_main_v240 V0 : FVec Ideal S3x4x8192x16 .f32) (ix4 2 B s h) = top (qh (arg V0) B h) (kh (arg V0) B h) 16 s := by
  pointwise [res_main_v240]
  exact top16 V0 _ h _ _ B s (by dsimp only; omega) (by dsimp only; omega)

theorem share_read (i : Fin 3) (t : EReal) (ht : (res_main_v240 V0 : FVec Ideal S3x4x8192x16 .f32) (ix4 i B s h) = t) :
    (res_main_v245 V0 : FVec Ideal S3x4x8192x16 .f32) (ix4 i B s h) = Ideal.exp (t - peak (qh (arg V0) B h) (kh (arg V0) B h) s) := by
  have hp : Host.reduce FloatOps.maximumf (res_main_v240 V0) (constant S_ .f32 0xFF800000#32) reducesTo_S3x4x8192x16_S4x8192x16_d0 h_S_ (ix3 B s h)
      = peak (qh (arg V0) B h) (kh (arg V0) B h) s := by
    refine (maxStack (res_main_v240 V0) B s h).trans ?_
    rw [stack1, stack4, stack16]; rfl
  rw [← ht, ← hp]
  exact spread (res_main_v240 V0) _ i B s h

set_option maxHeartbeats 1600000 in
theorem result_read (e : Fin 64) : (res_main_v280 V0 : FVec Ideal S4x8192x16x64 .f32) (ix4 B s h e)
      = result (qh (arg V0) B h) (kh (arg V0) B h) (vh (arg V0) B h) s e := by
  have r1 : s.val / 128 * 128 + s.val % 128 = s.val := by omega
  have r4 : (s.val / 4 / 128 * 128 + s.val / 4 % 128) * 4 + (B.val * 4 + s.val % 4) % 4 = s.val := by omega
  have r16 : (s.val / 16 / 128 * 128 + s.val / 16 % 128) * 16 + (B.val * 16 + s.val % 16) % 16 = s.val := by omega
  have n4 : (B.val * 4 + s.val % 4) / 4 = B.val := by omega
  have n16 : (B.val * 16 + s.val % 16) / 16 = B.val := by omega
  have c (a x : ℕ) : 128 + (a + x) = a + (128 + x) := by omega
  pointwise [res_main_v280]
  refine congrArg₂ Ideal.div
    (congrArg₂ (· + ·) (congrArg₂ (· + ·)
      (congrArg₂ (· * ·) (share_read V0 B s h 0 _ (stack1 V0 B s h)) ?_)
      (congrArg₂ (· * ·) (share_read V0 B s h 1 _ (stack4 V0 B s h)) ?_))
      (congrArg₂ (· * ·) (share_read V0 B s h 2 _ (stack16 V0 B s h)) ?_))
    (congrArg₂ (· + ·) (congrArg₂ (· + ·)
      (congrArg₂ (· * ·) (share_read V0 B s h 0 _ (stack1 V0 B s h)) ?_)
      (congrArg₂ (· * ·) (share_read V0 B s h 1 _ (stack4 V0 B s h)) ?_))
      (congrArg₂ (· * ·) (share_read V0 B s h 2 _ (stack16 V0 B s h)) ?_))
  · exact num_halves _ _ _ 1 s e _ _ _ _
      (fun x => weight1 V0 B h _ _ _ s r1) (fun x => weight1 V0 B h _ _ _ s r1)
      (fun x hx => value1 V0 B h ⟨s.val / 128, by omega⟩ ⟨s.val % 128, by omega⟩ _ s r1 hx _ rfl e)
      (fun x hx => value1 V0 B h ⟨s.val / 128, by omega⟩ ⟨s.val % 128, by omega⟩ _ s r1 hx _ (c _ _) e)
  · exact num_halves _ _ _ 4 s e _ _ _ _
      (fun x => weight4 V0 _ h _ _ _ B s n4 r4) (fun x => weight4 V0 _ h _ _ _ B s n4 r4)
      (fun x hx => value4 V0 _ h ⟨s.val / 4 / 128, by omega⟩ ⟨s.val / 4 % 128, by omega⟩ _ B s n4 r4 hx _ rfl e)
      (fun x hx => value4 V0 _ h ⟨s.val / 4 / 128, by omega⟩ ⟨s.val / 4 % 128, by omega⟩ _ B s n4 r4 hx _ (c _ _) e)
  · exact num_halves _ _ _ 16 s e _ _ _ _
      (fun x => weight16 V0 _ h _ _ _ B s n16 r16) (fun x => weight16 V0 _ h _ _ _ B s n16 r16)
      (fun x hx => value16 V0 _ h ⟨s.val / 16 / 128, by omega⟩ ⟨s.val / 16 % 128, by omega⟩ _ B s n16 r16 hx _ rfl e)
      (fun x hx => value16 V0 _ h ⟨s.val / 16 / 128, by omega⟩ ⟨s.val / 16 % 128, by omega⟩ _ B s n16 r16 hx _ (c _ _) e)
  · exact Finset.sum_congr rfl fun x _ => weight1 V0 B h _ _ x s r1
  · exact Finset.sum_congr rfl fun x _ => weight4 V0 _ h _ _ x B s n4 r4
  · exact Finset.sum_congr rfl fun x _ => weight16 V0 _ h _ _ x B s n16 r16

end Rows

end Cert.ReferenceIdeal.Attn

end
-- ==== Proof.Ideal1.Value.lean ====
/- The attention's launch over the ideal values: what it leaves in its result is `Spec`'s attention of the
   projections' array, head by head. -/
module

public import proofs.«01_k».proof.Proof.Ideal1.Frame
public import proofs.«01_k».proof.Proof.Ideal1.Steps
public import proofs.«01_k».proof.Proof.Ideal1.Reference
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Cert.Attn
open Cert.ReferenceIdeal.Attn (Proj qh kh vh)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The attention of three blocks. -/
def attended (X0 X1 X2 : Vec Ideal S1x8192x128 .f32) : Vec Ideal S1x8192x128 .f32 :=
  fun y => result (rows X0 (y 2)) (rows X1 (y 2)) (rows X2 (y 2)) (y 1) (entry (y 2))

/-- The body leaves it from any contents. -/
theorem left_attended (c : Dev nD) (i : grid0.Coords) (q : Blk) (hq : q.IsWhole) (k : Blk) (hk : k.IsWhole) (v : Blk) (hv : v.IsWhole)
    (o : Blk) (ho : o.IsWhole) (mx : Scr) (hmx : mx.IsWhole) (dn : Scr) (hdn : dn.IsWhole)
    (X0 X1 X2 : Vec Ideal S1x8192x128 .f32) (s) :
    left c i q hq k hk v hv o ho mx hmx dn hdn X0 X1 X2 s = attended X0 X1 X2 := by
  funext y
  obtain ⟨p, x, rfl⟩ : ∃ (p : Fin 8192) (x : Fin 128), y = ix3 0 p x := ⟨y 1, y 2, by idx_ext⟩
  exact left_eq c i q hq k hk v hv o ho mx hmx dn hdn X0 X1 X2 s p x

/-- The pipeline's data: the inputs' buffers hold their blocks, the output's what the attention makes of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => attended (iblk m c 0 t) (iblk m c 1 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = attended (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (bufQ t) fullShare ((dats m 0 c).before 0 t d))
    ∗ (∃ d, owns (c : Thread nD τ) (bufK t) fullShare ((dats m 0 c).before 1 t d))
    ∗ (∃ d, owns (c : Thread nD τ) (bufV t) fullShare ((dats m 0 c).before 2 t d))
    ∗ (∃ d, owns (c : Thread nD τ) (bufO t) fullShare ((dats m 0 c).before 3 t d)))

/-- and what it returns. -/
def post (c : Dev nD) (t : Fin cfg0.N) : sProp 𝕄 :=
  iprop((dats m 0 c).Φ t.succ ∗ (dats m 0 c).owesAt () t.succ
    ∗ owns (c : Thread nD τ) (bufQ t) fullShare ((dats m 0 c).after 0 t)
    ∗ owns (c : Thread nD τ) (bufK t) fullShare ((dats m 0 c).after 1 t)
    ∗ owns (c : Thread nD τ) (bufV t) fullShare ((dats m 0 c).after 2 t)
    ∗ owns (c : Thread nD τ) (bufO t) fullShare ((dats m 0 c).after 3 t))

theorem leaves (c : Dev nD) (t : Fin cfg0.N) :
    pre m c t ⊢ wp Idealize.ShloMosaic.frame (wpE (defs₀ (F := Ideal)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, scratch_eq]
  iintro ⟨⟨⟨HS0, HS1⟩, Hg⟩, Ho, ⟨%d0, H0⟩, ⟨%d1, H1⟩, ⟨%d2, H2⟩, ⟨%d3, H3⟩⟩
  iapply (run_owned c (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS0]; · iexact HS0
  isplitl [HS1]; · iexact HS1
  simp only [left_attended]
  iintro ⟨H0, H1, H2, ⟨%s, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem obligation (c : Dev nD) : BodyObligation (dats m 0 c) (defs₀ (F := Ideal)) Variants.none () Set.univ := fun t => by
  rw [bigSep_W0, bigSep_W0, body_row]
  exact triple_restated (leaves m c t) rfl .rfl fun _ => .rfl

set_option backward.isDefEq.respectTransparency.types false in
/-- The launch. -/
theorem run : θ_run defs (onTc (τ := τ) (main (F := Ideal))) (s₀ m ρ)
    (Pipeline.FramePost cfgs (dats m) 0 (V m)) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The result array and the argument after the run. -/
theorem run_blocks : θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0) :=
  (θ_run defs _ _).mono (fun r h c => ⟨(h c).1 3,
      ((h c).1 0).trans (((dats m 0 c).arrAt_in 0 rfl _).trans ((A_eq m c 0).trans (V_main_arg0 m c)))⟩)
    (run m ρ)

theorem idx_val : ∀ t : Fin cfg0.N, win0_0.index t = ![t.val / 8, 0, t.val % 8] ∧ win0_1.index t = ![t.val / 8, 0, 8 + t.val % 8]
    ∧ win0_2.index t = ![t.val / 8, 0, 16 + t.val % 8] ∧ win0_3.index t = ![t.val / 8, 0, t.val % 8] :=
  (by decide +kernel : ∀ t : Fin grid0.N, _)

/-- The projections' array. -/
abbrev proj (c : Dev nD) : Proj := m ((c : Thread nD τ).loc main_arg0)

/-- The head of a column of the result, and its place in the head. -/
def headOf (x : Fin 1024) : Fin 16 := ⟨x.val / 64, by have := x.isLt; omega⟩
def placeOf (x : Fin 1024) : Fin 64 := ⟨x.val % 64, Nat.mod_lt _ (by norm_num)⟩

/-- The attention of the projections' array, every head side by side. -/
def REF (c : Dev nD) : FVec Ideal S4x8192x1024 .f32 := fun y =>
  result (qh (proj m c) (y 0) (headOf (y 2))) (kh (proj m c) (y 0) (headOf (y 2))) (vh (proj m c) (y 0) (headOf (y 2)))
    (y 1) (placeOf (y 2))

/-- A point's row of the batch, and the head of a lane at it. -/
def batch (t : Fin cfg0.N) : Fin 4 := ⟨t.val / 8, by have h : t.val < 32 := t.isLt; omega⟩
def head (t : Fin cfg0.N) (x : Fin 128) : Fin 16 :=
  ⟨2 * (t.val % 8) + x.val / 64, by have := x.isLt; omega⟩

theorem q_block (c : Dev nD) (t : Fin cfg0.N) (x : Fin 128) : rows (iblk m c 0 t) x = qh (proj m c) (batch t) (head t x) := by
  funext s e
  unfold rows qh batch head half
  blk_point [iblk, V, idx_val t]

theorem k_block (c : Dev nD) (t : Fin cfg0.N) (x : Fin 128) : rows (iblk m c 1 t) x = kh (proj m c) (batch t) (head t x) := by
  funext s e
  unfold rows kh batch head half
  blk_point [iblk, V, idx_val t]

theorem v_block (c : Dev nD) (t : Fin cfg0.N) (x : Fin 128) : rows (iblk m c 2 t) x = vh (proj m c) (batch t) (head t x) := by
  funext s e
  unfold rows vh batch head half
  blk_point [iblk, V, idx_val t]

/-- A column of a point's block, in the result. -/
def column (t : Fin cfg0.N) (x : Fin 128) : Fin 1024 := ⟨t.val % 8 * 128 + x.val, by have := x.isLt; omega⟩

/-- A point's block is the attention at its rows and columns. -/
theorem block (c : Dev nD) (t : Fin cfg0.N) (p : Fin 8192) (x : Fin 128) :
    attended (iblk m c 0 t) (iblk m c 1 t) (iblk m c 2 t) (ix3 0 p x) = REF m c (ix3 (batch t) p (column t x)) := by
  have hx := x.isLt
  have hh : headOf (column t x) = head t x := Fin.ext (by simp only [headOf, column, head]; omega)
  have hp : placeOf (column t x) = entry x := Fin.ext (by simp only [placeOf, column, entry]; omega)
  show result (rows (iblk m c 0 t) x) (rows (iblk m c 1 t) x) (rows (iblk m c 2 t) x) p (entry x)
    = result (qh (proj m c) (batch t) (headOf (column t x))) (kh (proj m c) (batch t) (headOf (column t x)))
        (vh (proj m c) (batch t) (headOf (column t x))) p (placeOf (column t x))
  rw [hh, hp, q_block, k_block, v_block]

/-- The result array after the run. -/
theorem final (c : Dev nD) : (dats m 0 c).arrAt 3 (cfgs 0).N = REF m c := by
  refine (dats m 0 c).arrAt_eq_of_covers 3 _ (by decide +kernel) fun t hf y => ?_
  blk_simp
  rw [after_3]
  obtain ⟨p, x, rfl⟩ : ∃ (p : Fin 8192) (x : Fin 128), y = ix3 0 p x := ⟨y 1, y 2, by idx_ext⟩
  refine (block m c t p x).trans (congrArg (REF m c) ?_)
  unfold batch column
  blk_ext [idx_val t]

end Cert.KernelIdeal.Attn

end
-- ==== Proof.Ideal1.Algebraic.lean ====
/- The attention's value claim: its idealised program's result array is the reference's. -/
module

public import proofs.«01_k».proof.Defs
public import proofs.«01_k».proof.Proof.Ideal1.Value
public import proofs.«01_k».proof.Proof.Ideal1.Reference

@[expose] public section

set_option maxRecDepth 16384

noncomputable section

namespace Cert.Proof.Attn

open Idealize.ShloMosaic Idealize.ShloMosaic.StableHlo Idealize.SL.Sem Cert.Attn
open Cert.ReferenceIdeal.Attn (Proj qh kh vh arg)
open Cert.KernelIdeal.Attn (headOf placeOf)

/-- The reference's result, its heads side by side. -/
theorem reference_read (V0 : Valuation Cert.ReferenceIdeal.τ Cert.ReferenceIdeal.sig (Elt Ideal)) (B : Fin 4) (s : Fin 8192) (x : Fin 1024) :
    (shapeCast _ (Cert.ReferenceIdeal.Value.res_main_v280 V0) Cert.ReferenceIdeal.Gen.shapeCasts_S4x8192x16x64_S4x8192x1024
        : FVec Ideal Cert.ReferenceIdeal.S4x8192x1024 .f32) (ix3 B s x)
      = result (qh (arg V0) B (headOf x)) (kh (arg V0) B (headOf x)) (vh (arg V0) B (headOf x)) s (placeOf x) := by
  rw [← Cert.ReferenceIdeal.Attn.result_read]
  generalize Cert.ReferenceIdeal.Value.res_main_v280 V0 = W
  unfold headOf placeOf
  pointwise

theorem algebraic : Cert.algebraic_KernelIdeal_ReferenceIdeal := by
  intro m ρ m' ρ' _ hagree
  refine ⟨fun c => Cert.KernelIdeal.Attn.REF m c,
    (θ_run Cert.KernelIdeal.defs _ _).mono (fun _ h c => ⟨(h c).1.trans (Cert.KernelIdeal.Attn.final m c), (h c).2⟩)
      (Cert.KernelIdeal.Attn.run_blocks m ρ),
    (θ_run Cert.ReferenceIdeal.defs _ _).mono (fun _ h c => ⟨(h c).1.trans ?_, (h c).2⟩)
      (Cert.ReferenceIdeal.Value.run (F := Ideal) m' ρ')⟩
  have e : arg (launchContents m' c) = Cert.KernelIdeal.Attn.proj m c := hagree c
  funext y
  obtain ⟨B, s, x, rfl⟩ : ∃ (B : Fin 4) (s : Fin 8192) (x : Fin 1024), y = ix3 B s x := ⟨y 0, y 1, y 2, by idx_ext⟩
  refine (reference_read (launchContents m' c) B s x).trans ?_
  rw [e]
  rfl

end Cert.Proof.Attn

end
-- ==== Proof.Ideal2.Frames.lean ====
/- The claims about the feed-forward half step: the frames of its three programs, what the idealised program keeps. -/
module

public import proofs.«01_k».proof.Defs
public import proofs.«01_k».proof.Proof.Gen.Kernel2.Frame
public import proofs.«01_k».proof.Proof.Gen.Reference2Ideal.Run
public import proofs.«01_k».proof.Proof.Gen.Kernel2Ideal.Frame

@[expose] public section

set_option maxRecDepth 16384

noncomputable section

namespace Cert.Proof.Ffn

open Idealize.ShloMosaic Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

end Cert.Proof.Ffn

end
-- ==== Proof.Ideal2.Value.lean ====
/- What the feed-forward half step leaves in its result: at every block of rows, the reference's term read there. The
   hidden columns come in eleven blocks; the last is filled with zero weights, and a hidden column of zero weights adds
   nothing. A block of rows is normalised once, at its first block of columns, and kept for the others. -/
module

public import proofs.«01_k».proof.Proof.Gen.Kernel2Ideal.Value
public import proofs.«01_k».proof.Proof.Gen.Kernel2Ideal.Skeleton
public import proofs.«01_k».proof.Proof.Gen.Reference2Ideal
public import Idealize.ShloMosaic.Lib.Pipeline.ValueKit
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference2Ideal.Ffn

open Cert.Reference2Ideal Cert.Reference2Ideal.Gen

/-- The reference's row normalisation with a gain. -/
def rms (x : FVec Ideal S32768x2048 .f32) (g : FVec Ideal S2048 .f32) : FVec Ideal S32768x2048 .f32 :=
  mulf (mulf x (broadcastInDim S32768x2048 ![0, 1] bcast_S32768x1_S32768x2048_0_1 (Host.rsqrt (addf (Host.divf
    (broadcastInDim S32768x1 ![0] bcast_S32768_S32768x1_0 (Host.reduceAdd (mulf x x) (constant S_ .f32 0x00000000#32) reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

/-- The reference's `a · sigmoid a`. -/
def silu (a : FVec Ideal S32768x5504 .f32) : FVec Ideal S32768x5504 .f32 :=
  mulf a (Host.divf (broadcastInDim S32768x5504 ![] bcast_S_S32768x5504 (constant S_ .f32 0x3F800000#32))
    (addf (broadcastInDim S32768x5504 ![] bcast_S_S32768x5504 (constant S_ .f32 0x3F800000#32)) (Host.exp (Host.negf a))))

/-- The reference's hidden rows. -/
def hidden (h : FVec Ideal S32768x2048 .f32) (g : FVec Ideal S2048 .f32) (wg wu : FVec Ideal S2048x5504 .f32) : FVec Ideal S32768x5504 .f32 :=
  mulf (silu (Host.dotGeneral dot_S32768x2048_S2048x5504_S32768x5504_1_0_0_1_n_n none (rms h g) wg))
    (Host.dotGeneral dot_S32768x2048_S2048x5504_S32768x5504_1_0_0_1_n_n none (rms h g) wu)

/-- The reference's term over its arguments. -/
def term (h : FVec Ideal S32768x2048 .f32) (g : FVec Ideal S2048 .f32) (wg wu : FVec Ideal S2048x5504 .f32)
    (wd : FVec Ideal S5504x2048 .f32) : FVec Ideal S32768x2048 .f32 :=
  addf h (mulf (broadcastInDim S32768x2048 ![] bcast_S_S32768x2048 (constant S_ .f32 0x3F000000#32))
    (Host.dotGeneral dot_S32768x5504_S5504x2048_S32768x2048_1_0_0_1_n_n none (hidden h g wg wu) wd))

end Cert.Reference2Ideal.Ffn

namespace Cert.Kernel2Ideal.Ffn

open Cert.Kernel2Ideal Cert.Kernel2Ideal.Gen

variable (m : (ℓ : Loc nD τ sig) → Buf (Elt Ideal) ℓ)

theorem idx_val : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, _)

/-- A matrix filled with zero columns. -/
theorem columns_filled (x : Vec Ideal S2048x5504 .f32) (i : Fin 2048) (k : Fin 5632) :
    pad S2048x5632 ![0, 0] ![0, 128] ![0, 0] x (sitofp (F := Ideal) .f32 (constantI S_ 32 0#32)) pads_S2048x5504_S2048x5632_000_01280 h_S_ (ix2 i k)
      = if h : k.val < 5504 then x (ix2 i ⟨k.val, h⟩) else (0 : EReal) := by
  pointwise
  rw [show FloatOps.sitofp (F := Ideal) .f32 (0#32) = (0 : EReal) by simp [FloatOps.sitofp]]

/-- The filled gate weights. -/
theorem gate_read (c : Dev nD) (i : Fin 2048) (k : Fin 5632) :
    (V m c main_v1 : Vec Ideal S2048x5632 .bf16) (ix2 i k)
      = if h : k.val < 5504 then (m ((c : Thread nD τ).loc main_arg2) : Vec Ideal S2048x5504 .f32) (ix2 i ⟨k.val, h⟩) else (0 : EReal) := by
  unfold V
  simp only [List.flatten_cons, List.flatten_nil, List.cons_append, List.nil_append, List.append_nil]
  entry_read
  exact columns_filled (m ((c : Thread nD τ).loc main_arg2)) i k

/-- A matrix filled with zero rows. -/
theorem rows_filled (x : Vec Ideal S5504x2048 .f32) (k : Fin 5632) (j : Fin 2048) :
    pad S5632x2048 ![0, 0] ![128, 0] ![0, 0] x (sitofp (F := Ideal) .f32 (constantI S_ 32 0#32)) pads_S5504x2048_S5632x2048_01280_000 h_S_ (ix2 k j)
      = if h : k.val < 5504 then x (ix2 ⟨k.val, h⟩ j) else (0 : EReal) := by
  pointwise
  rw [show FloatOps.sitofp (F := Ideal) .f32 (0#32) = (0 : EReal) by simp [FloatOps.sitofp]]

/-- The filled up weights. -/
theorem up_read (c : Dev nD) (i : Fin 2048) (k : Fin 5632) :
    (V m c main_v3 : Vec Ideal S2048x5632 .bf16) (ix2 i k)
      = if h : k.val < 5504 then (m ((c : Thread nD τ).loc main_arg3) : Vec Ideal S2048x5504 .f32) (ix2 i ⟨k.val, h⟩) else (0 : EReal) := by
  unfold V
  simp only [List.flatten_cons, List.flatten_nil, List.cons_append, List.nil_append, List.append_nil]
  entry_read
  exact columns_filled (m ((c : Thread nD τ).loc main_arg3)) i k

/-- The filled down weights. -/
theorem down_read (c : Dev nD) (k : Fin 5632) (j : Fin 2048) :
    (V m c main_v5 : Vec Ideal S5632x2048 .bf16) (ix2 k j)
      = if h : k.val < 5504 then (m ((c : Thread nD τ).loc main_arg4) : Vec Ideal S5504x2048 .f32) (ix2 ⟨k.val, h⟩ j) else (0 : EReal) := by
  unfold V
  simp only [List.flatten_cons, List.flatten_nil, List.cons_append, List.nil_append, List.append_nil]
  entry_read
  exact rows_filled (m ((c : Thread nD τ).loc main_arg4)) k j

/-- The gain as one row. -/
theorem gain_read (c : Dev nD) (i : Fin 2048) :
    (V m c main_v6 : Vec Ideal S1x2048 .f32) (ix2 0 i) = (m ((c : Thread nD τ).loc main_arg1) : Vec Ideal S2048 .f32) (ix1 i) := by
  unfold V
  simp only [List.flatten_cons, List.flatten_nil, List.cons_append, List.nil_append, List.append_nil]
  entry_read
  pointwise

/-- The hidden rows before the call. -/
theorem rows_read (c : Dev nD) : V m c main_arg0 = m ((c : Thread nD τ).loc main_arg0) := by
  unfold V
  simp only [List.flatten_cons, List.flatten_nil, List.cons_append, List.nil_append, List.append_nil]
  entry_read
  rfl

/-- The gain's block. -/
theorem gain_block (c : Dev nD) (t : Fin cfg0.N) (i : Fin 2048) :
    (iblk m c 1 t : Vec Ideal S1x2048 .f32) (ix2 0 i) = (m ((c : Thread nD τ).loc main_arg1) : Vec Ideal S2048 .f32) (ix1 i) := by
  refine Eq.trans (b := (V m c main_v6 : Vec Ideal S1x2048 .f32) (ix2 0 i)) ?_ (gain_read m c i)
  blk_point [iblk, idx_val t]

/-- The row of the array that is row `p` of a point's block. -/
abbrev row (t : Fin cfg0.N) (p : Fin 512) : Fin 32768 :=
  ⟨t.val / 11 * 512 + p.val, by have := t.isLt; have : cfg0.N = 704 := rfl; omega⟩

/-- The hidden column that is column `l` of a point's block. -/
abbrev column (t : Fin cfg0.N) (l : Fin 512) : Fin 5632 := ⟨t.val % 11 * 512 + l.val, by omega⟩

/-- The rows' block. -/
theorem rows_block (c : Dev nD) (t : Fin cfg0.N) (p : Fin 512) (i : Fin 2048) :
    (iblk m c 0 t : Vec Ideal S512x2048 .f32) (ix2 p i) = (m ((c : Thread nD τ).loc main_arg0) : Vec Ideal S32768x2048 .f32) (ix2 (row t p) i) := by
  blk_point [iblk, rows_read, idx_val t]

/-- The gate weights' block. -/
theorem gate_block (c : Dev nD) (t : Fin cfg0.N) (i : Fin 2048) (l : Fin 512) :
    (iblk m c 2 t : Vec Ideal S2048x512 .bf16) (ix2 i l) = (V m c main_v1 : Vec Ideal S2048x5632 .bf16) (ix2 i (column t l)) := by
  blk_point [iblk, idx_val t]

/-- The up weights' block. -/
theorem up_block (c : Dev nD) (t : Fin cfg0.N) (i : Fin 2048) (l : Fin 512) :
    (iblk m c 3 t : Vec Ideal S2048x512 .bf16) (ix2 i l) = (V m c main_v3 : Vec Ideal S2048x5632 .bf16) (ix2 i (column t l)) := by
  blk_point [iblk, idx_val t]

/-- The down weights' block. -/
theorem down_block (c : Dev nD) (t : Fin cfg0.N) (l : Fin 512) (j : Fin 2048) :
    (iblk m c 4 t : Vec Ideal S512x2048 .bf16) (ix2 l j) = (V m c main_v5 : Vec Ideal S5632x2048 .bf16) (ix2 (column t l) j) := by
  blk_point [iblk, idx_val t]

/-- The reference's normalised rows over the kernel's argument arrays. -/
abbrev normal (c : Dev nD) : FVec Ideal Cert.Reference2Ideal.S32768x2048 .f32 :=
  Cert.Reference2Ideal.Ffn.rms (m ((c : Thread nD τ).loc main_arg0)) (m ((c : Thread nD τ).loc main_arg1))

/-- The kernel's normalised rows are the reference's. -/
theorem normal_block (c : Dev nD) (t : Fin cfg0.N) (p : Fin 512) (i : Fin 2048) :
    k0_pay1 (iblk m c 0 t) (iblk m c 1 t) (ix2 p i) = normal m c (ix2 (row t p) i) := by
  pointwise [k0_pay1, normal, Cert.Reference2Ideal.Ffn.rms]
  simp only [rows_block, gain_block]

/-- A hidden value over the filled weights. -/
def hid (c : Dev nD) (r : Fin 32768) (k : Fin 5632) : EReal :=
  (∑ i : Fin 2048, normal m c (ix2 r i) * (V m c main_v1 : Vec Ideal S2048x5632 .bf16) (ix2 i k))
    * Ideal.logistic (∑ i : Fin 2048, normal m c (ix2 r i) * (V m c main_v1 : Vec Ideal S2048x5632 .bf16) (ix2 i k))
    * ∑ i : Fin 2048, normal m c (ix2 r i) * (V m c main_v3 : Vec Ideal S2048x5632 .bf16) (ix2 i k)

/-- The first point of a point's block of rows. -/
abbrev start (t : Fin cfg0.N) : Fin cfg0.N := ⟨11 * (t.val / 11), Nat.lt_of_le_of_lt (Nat.mul_div_le _ _) t.isLt⟩

theorem row_start (t : Fin cfg0.N) (p : Fin 512) : row (start t) p = row t p := by
  refine Fin.ext ?_
  show 11 * (t.val / 11) / 11 * 512 + p.val = t.val / 11 * 512 + p.val
  omega

/-- What a point adds: its block of hidden columns times its block of down weights. -/
abbrev part (c : Dev nD) (t : Fin cfg0.N) : FVec Ideal S512x2048 .f32 :=
  k0_pay2 (k0_pay1 (iblk m c 0 (start t)) (iblk m c 1 (start t))) (iblk m c 2 t) (iblk m c 3 t) (iblk m c 4 t)

/-- What a point adds, over the arrays. -/
theorem part_read (c : Dev nD) (t : Fin cfg0.N) (p : Fin 512) (j : Fin 2048) :
    part m c t (ix2 p j) = ∑ l : Fin 512, hid m c (row t p) (column t l) * (V m c main_v5 : Vec Ideal S5632x2048 .bf16) (ix2 (column t l) j) := by
  unfold part hid
  have hN : ∀ i, k0_pay1 (iblk m c 0 (start t)) (iblk m c 1 (start t)) (ix2 p i) = normal m c (ix2 (row t p) i) := fun i => by
    rw [normal_block, row_start]
  revert hN
  generalize k0_pay1 (iblk m c 0 (start t)) (iblk m c 1 (start t)) = N
  intro hN
  pointwise [k0_pay2]
  simp only [hN, gate_block, up_block, down_block]

/-- The kept rows are the normalised rows of the block's first point. -/
theorem kept (c : Dev nD) (t : Fin cfg0.N) :
    (outsAt0 m c t.val t.isLt).2 = k0_pay1 (iblk m c 0 (start t)) (iblk m c 1 (start t)) := by
  funext y
  refine Pipeline.eq_of_write_hold_apply (fun n h => (outsAt0 m c n h).2) 11
    (fun t => k0_pay1 (iblk m c 0 t) (iblk m c 1 t)) ?_ ?_ t y
  · intro t h y
    rw [outsAt0_A m c t h h (by omega) (by omega)]
    dsimp only
    frame_out
  · intro t h y
    by_cases h3 : t.val % 11 = 10
    · rw [outsAt0_C m c t h h (by omega) h3]
      rfl
    · rw [outsAt0_B m c t h h (by omega) h3]
      rfl

/-- The kept rows at a later point of a block of rows. -/
theorem kept_before (c : Dev nD) (t : Fin cfg0.N) (h : ¬t.val % 11 = 0) :
    (outsAt0 m c (t.val - 1) (Nat.lt_of_le_of_lt (Nat.sub_le _ _) t.isLt)).2
      = k0_pay1 (iblk m c 0 (start t)) (iblk m c 1 (start t)) := by
  have hs : start ⟨t.val - 1, Nat.lt_of_le_of_lt (Nat.sub_le _ _) t.isLt⟩ = start t :=
    Fin.ext (by show 11 * ((t.val - 1) / 11) = 11 * (t.val / 11); omega)
  rw [← hs]
  exact kept m c ⟨t.val - 1, Nat.lt_of_le_of_lt (Nat.sub_le _ _) t.isLt⟩

/-- At a block's first point the result holds what the point adds. -/
theorem point_A (c : Dev nD) (t : Fin cfg0.N) (h : t.val % 11 = 0) (y) : (outsAt0 m c t.val t.isLt).1 y = part m c t y := by
  have hs : start t = t := Fin.ext (by show 11 * (t.val / 11) = t.val; omega)
  rw [outsAt0_A m c t h h (by omega) (by omega)]
  unfold part
  rw [hs]
  dsimp only
  frame_out

/-- What a point stores over what it found. -/
theorem grown (a : FVec Ideal S512x2048 .bf16) (w u : Vec Ideal S2048x512 .bf16) (d : Vec Ideal S512x2048 .bf16)
    (x : Vec Ideal S512x2048 .f32) (y) : k0_pay3 a w u d x y = x y + k0_pay2 a w u d y := by
  unfold k0_pay3
  pointwise

/-- The half step. -/
theorem halved (x z : Vec Ideal S512x2048 .f32) (y) : k0_pay4 x z y = x y + Ideal.ofBits .f32 0x3F000000#32 * z y := by
  pointwise [k0_pay4]

/-- At the block's middle points it grows by what the point adds. -/
theorem point_B (c : Dev nD) (t : Fin cfg0.N) (h : ¬t.val % 11 = 0) (h3 : ¬t.val % 11 = 10) (y) :
    (outsAt0 m c t.val t.isLt).1 y
      = (outsAt0 m c (t.val - 1) (Nat.lt_of_le_of_lt (Nat.sub_le _ _) t.isLt)).1 y + part m c t y := by
  rw [outsAt0_B m c t h h (by omega) h3]
  dsimp only
  rw [kept_before m c t h]
  frame_out
  refine Eq.trans ?_ (grown (k0_pay1 (iblk m c 0 (start t)) (iblk m c 1 (start t))) (iblk m c 2 t) (iblk m c 3 t) (iblk m c 4 t) _ y)
  exact congrFun (congrArg (fun x => k0_pay3 x (iblk m c 2 t) (iblk m c 3 t) (iblk m c 4 t) _) (Memref.IsWhole.read_unread _ _)) y

/-- The rows a point adds to. -/
abbrev before (c : Dev nD) (t : Fin cfg0.N) (y : S512x2048.Idx) : EReal := iblk m c 0 t y

/-- At the block's last point it also becomes the half step. -/
theorem point_C (c : Dev nD) (t : Fin cfg0.N) (h3 : t.val % 11 = 10) (y) :
    (outsAt0 m c t.val t.isLt).1 y
      = before m c t y + Ideal.ofBits .f32 0x3F000000#32 *
        ((outsAt0 m c (t.val - 1) (Nat.lt_of_le_of_lt (Nat.sub_le _ _) t.isLt)).1 y + part m c t y) := by
  have h : ¬t.val % 11 = 0 := by omega
  rw [outsAt0_C m c t h h (by omega) h3]
  dsimp only
  rw [kept_before m c t h]
  frame_out
  refine Eq.trans ?_ (congrArg (fun z : EReal => before m c t y + Ideal.ofBits .f32 0x3F000000#32 * z)
    (grown (k0_pay1 (iblk m c 0 (start t)) (iblk m c 1 (start t))) (iblk m c 2 t) (iblk m c 3 t) (iblk m c 4 t) _ y))
  refine Eq.trans (halved _ _ y) ?_
  exact congrArg (fun z : EReal => before m c t y + Ideal.ofBits .f32 0x3F000000#32 * z) (congrFun (congrArg (fun x => k0_pay3 x (iblk m c 2 t) (iblk m c 3 t) (iblk m c 4 t) _) (Memref.IsWhole.read_unread _ _)) y)

/-- What point `n` adds, at any number. -/
def added (c : Dev nD) (n : ℕ) (y : S512x2048.Idx) : EReal := if h : n < cfg0.N then part m c ⟨n, h⟩ y else 0

/-- Before its last point a block of rows holds the sum of what its points so far added. -/
theorem sum_so_far (c : Dev nD) (a : ℕ) (y) : ∀ (n : ℕ) (hn : n < 10) (h : 11 * a + n < cfg0.N),
    (outsAt0 m c (11 * a + n) h).1 y = ∑ j ∈ Finset.range (n + 1), added m c (11 * a + j) y
  | 0, hn, h => by
    rw [Finset.sum_range_one, added, dif_pos h]
    exact point_A m c ⟨11 * a + 0, h⟩ (by show (11 * a + 0) % 11 = 0; omega) y
  | n + 1, hn, h => by
    rw [Finset.sum_range_succ, ← sum_so_far c a y n (by omega) (by omega), added, dif_pos h]
    exact point_B m c ⟨11 * a + (n + 1), h⟩ (by show ¬(11 * a + (n + 1)) % 11 = 0; omega) (by show ¬(11 * a + (n + 1)) % 11 = 10; omega) y

/-- At its last point it holds the half step by the sum of what all its points added. -/
theorem sum_all (c : Dev nD) (t : Fin cfg0.N) (h3 : t.val % 11 = 10) (y) :
    (outsAt0 m c t.val t.isLt).1 y
      = before m c t y + Ideal.ofBits .f32 0x3F000000#32 * ∑ j ∈ Finset.range 11, added m c (11 * (t.val / 11) + j) y := by
  have ht : t.val = 11 * (t.val / 11) + 10 := by omega
  have h9 : 11 * (t.val / 11) + 9 < cfg0.N := by have := t.isLt; omega
  have hlast : added m c (11 * (t.val / 11) + 10) y = part m c t y := by
    rw [← ht, added, dif_pos t.isLt]
  rw [point_C m c t h3 y, Finset.sum_range_succ, hlast, ← sum_so_far m c (t.val / 11) y 9 (by omega) h9]
  have e : t.val - 1 = 11 * (t.val / 11) + 9 := by omega
  simp only [e]

/-- The sum of what all points of a block of rows add, as one sum over the hidden columns. -/
theorem sum_columns (c : Dev nD) (t : Fin cfg0.N) (p : Fin 512) (j : Fin 2048) :
    ∑ n ∈ Finset.range 11, added m c (11 * (t.val / 11) + n) (ix2 p j)
      = ∑ k : Fin 5632, hid m c (row t p) k * (V m c main_v5 : Vec Ideal S5632x2048 .bf16) (ix2 k j) := by
  rw [Finset.sum_range, Fin.sum_univ_tiles 11 512 rfl]
  refine Finset.sum_congr rfl fun n _ => ?_
  have hlt : 11 * (t.val / 11) + n.val < cfg0.N := by
    have := t.isLt; have := n.isLt; have : cfg0.N = 704 := rfl; omega
  have hrow : row ⟨11 * (t.val / 11) + n.val, hlt⟩ p = row t p := Fin.ext (by
    show (11 * (t.val / 11) + n.val) / 11 * 512 + p.val = t.val / 11 * 512 + p.val; have := n.isLt; omega)
  rw [added, dif_pos hlt, part_read, hrow]
  refine Finset.sum_congr rfl fun l _ => ?_
  have hcol : column ⟨11 * (t.val / 11) + n.val, hlt⟩ l = ⟨n.val * 512 + l.val, by have := n.isLt; have := l.isLt; omega⟩ := Fin.ext (by
    show (11 * (t.val / 11) + n.val) % 11 * 512 + l.val = n.val * 512 + l.val; have := n.isLt; omega)
  rw [hcol]

/-- The filled hidden columns add nothing: the sum over the columns there are. -/
theorem sum_real (c : Dev nD) (r : Fin 32768) (j : Fin 2048) :
    ∑ k : Fin 5632, hid m c r k * (V m c main_v5 : Vec Ideal S5632x2048 .bf16) (ix2 k j)
      = ∑ k : Fin 5504, hid m c r ⟨k.val, by omega⟩ * (m ((c : Thread nD τ).loc main_arg4) : Vec Ideal S5504x2048 .f32) (ix2 k j) := by
  rw [Fin.sum_univ_two_halves 5504 128 rfl]
  refine Eq.trans (congrArg₂ (· + ·) (Finset.sum_congr rfl fun k _ => ?_) (Finset.sum_eq_zero fun k _ => ?_)) (add_zero _)
  · rw [down_read, dif_pos k.isLt]
  · rw [down_read, dif_neg (by show ¬5504 + k.val < 5504; omega), mul_zero]

/-- A hidden value of a column there is. -/
theorem hid_real (c : Dev nD) (r : Fin 32768) (k : Fin 5504) :
    hid m c r ⟨k.val, by omega⟩ = Cert.Reference2Ideal.Ffn.hidden (m ((c : Thread nD τ).loc main_arg0)) (m ((c : Thread nD τ).loc main_arg1))
      (m ((c : Thread nD τ).loc main_arg2)) (m ((c : Thread nD τ).loc main_arg3)) (ix2 r k) := by
  unfold hid Cert.Reference2Ideal.Ffn.hidden normal
  have hg : ∀ i : Fin 2048, (V m c main_v1 : Vec Ideal S2048x5632 .bf16) (ix2 i ⟨k.val, by omega⟩)
      = (m ((c : Thread nD τ).loc main_arg2) : Vec Ideal S2048x5504 .f32) (ix2 i k) := fun i => (gate_read m c i _).trans (dif_pos k.isLt)
  have hu : ∀ i : Fin 2048, (V m c main_v3 : Vec Ideal S2048x5632 .bf16) (ix2 i ⟨k.val, by omega⟩)
      = (m ((c : Thread nD τ).loc main_arg3) : Vec Ideal S2048x5504 .f32) (ix2 i k) := fun i => (up_read m c i _).trans (dif_pos k.isLt)
  simp only [hg, hu]
  generalize Cert.Reference2Ideal.Ffn.rms (m ((c : Thread nD τ).loc main_arg0)) (m ((c : Thread nD τ).loc main_arg1)) = N
  pointwise [Cert.Reference2Ideal.Ffn.silu, Ideal.logistic]

/-- The reference's term over the kernel's argument arrays. -/
abbrev REF (c : Dev nD) : FVec Ideal Cert.Reference2Ideal.S32768x2048 .f32 :=
  Cert.Reference2Ideal.Ffn.term (m ((c : Thread nD τ).loc main_arg0)) (m ((c : Thread nD τ).loc main_arg1)) (m ((c : Thread nD τ).loc main_arg2))
    (m ((c : Thread nD τ).loc main_arg3)) (m ((c : Thread nD τ).loc main_arg4))

/-- The hidden rows before the call. -/
abbrev rows (c : Dev nD) (y : S32768x2048.Idx) : EReal := m ((c : Thread nD τ).loc main_arg0) y

/-- The reference's term at a place. -/
theorem ref_read (c : Dev nD) (r : Fin 32768) (j : Fin 2048) :
    REF m c (ix2 r j) = rows m c (ix2 r j) + Ideal.ofBits .f32 0x3F000000#32
      * ∑ k : Fin 5504, hid m c r ⟨k.val, by omega⟩ * (m ((c : Thread nD τ).loc main_arg4) : Vec Ideal S5504x2048 .f32) (ix2 k j) := by
  simp only [hid_real]
  unfold REF Cert.Reference2Ideal.Ffn.term
  generalize Cert.Reference2Ideal.Ffn.hidden (m ((c : Thread nD τ).loc main_arg0)) (m ((c : Thread nD τ).loc main_arg1))
      (m ((c : Thread nD τ).loc main_arg2)) (m ((c : Thread nD τ).loc main_arg3)) = H
  pointwise

/-- What a block of rows holds after its last point is the reference's term there. -/
theorem block (c : Dev nD) (t : Fin cfg0.N) (h3 : t.val % 11 = 10) (p : Fin 512) (j : Fin 2048) :
    (outsAt0 m c t.val t.isLt).1 (ix2 p j) = REF m c (ix2 (row t p) j) := by
  rw [sum_all m c t h3, sum_columns, sum_real, ref_read]
  exact congrArg (fun z : EReal => z + _) (rows_block m c t p j)

theorem last_flush : ∀ t : Fin cfg0.N, (cfg0.win 5).flush t = true → t.val % 11 = 10 := by
  decide +kernel

/-- The result array after the run is the reference's term. -/
theorem final (c : Dev nD) : (dats m 0 c).arrAt 5 (cfgs 0).N = REF m c := by
  refine (dats m 0 c).arrAt_eq_of_covers 5 _ (by decide +kernel) fun t hf y => ?_
  blk_simp
  rw [after0_5]
  obtain ⟨p, j, rfl⟩ : ∃ (p : Fin 512) (j : Fin 2048), y = ix2 p j := ⟨y 0, y 1, by idx_ext⟩
  refine (block m c t (last_flush t hf) p j).trans ?_
  blk_point [idx_val t]

end Cert.Kernel2Ideal.Ffn

end
-- ==== Proof.Ideal2.Claims.lean ====
/- The feed-forward half step's result array is the reference's. -/
module

public import proofs.«01_k».proof.Defs
public import proofs.«01_k».proof.Proof.Gen.Reference2Ideal.Run
public import proofs.«01_k».proof.Proof.Ideal2.Value

@[expose] public section

set_option maxRecDepth 16384

noncomputable section

namespace Cert.Proof.Ffn

open Idealize.ShloMosaic Idealize.SL.Sem

/-- From arguments that agree, the kernel's result array and the reference's are one term of the arguments. -/
theorem algebraic : Cert.algebraic_Kernel2Ideal_Reference2Ideal := by
  intro m ρ m' ρ' _ hagree
  refine ⟨fun c => Cert.Kernel2Ideal.Ffn.REF m c,
    (θ_run Cert.Kernel2Ideal.defs _ _).mono (fun _ h c => ⟨(h c).1.trans (Cert.Kernel2Ideal.Ffn.final m c), (h c).2⟩)
      (Cert.Kernel2Ideal.Value.run_blocks (F := Ideal) m ρ),
    (θ_run Cert.Reference2Ideal.defs _ _).mono (fun _ h c => ⟨(h c).1.trans ?_, (h c).2⟩)
      (Cert.Reference2Ideal.Value.run (F := Ideal) m' ρ')⟩
  obtain ⟨h0, h1, h2, h3, h4⟩ := hagree c
  change Cert.Reference2Ideal.Ffn.term (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) = _
  rw [h0, h1, h2, h3, h4]

end Cert.Proof.Ffn

end
-- ==== Proof.Ideal3.Value.lean ====
/- What the normalised input projection leaves in its result: at every block of rows and columns, the reference's term
   read there. A block of rows is normalised once, at its first block of columns, and kept for the others. -/
module

public import proofs.«01_k».proof.Proof.Gen.Kernel3Ideal.Value
public import proofs.«01_k».proof.Proof.Gen.Kernel3Ideal.Skeleton
public import proofs.«01_k».proof.Proof.Gen.Reference3Ideal
public import Idealize.ShloMosaic.Lib.Pipeline.ValueKit
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference3Ideal.Proj

open Cert.Reference3Ideal Cert.Reference3Ideal.Gen

/-- The reference's row normalisation with a gain. -/
def rms (x : FVec Ideal S32768x2048 .f32) (g : FVec Ideal S2048 .f32) : FVec Ideal S32768x2048 .f32 :=
  mulf (mulf x (broadcastInDim S32768x2048 ![0, 1] bcast_S32768x1_S32768x2048_0_1 (Host.rsqrt (addf (Host.divf
    (broadcastInDim S32768x1 ![0] bcast_S32768_S32768x1_0 (Host.reduceAdd (mulf x x) (constant S_ .f32 0x00000000#32) reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

/-- The reference's term over its arguments. -/
def term (h : FVec Ideal S32768x2048 .f32) (g : FVec Ideal S2048 .f32) (w : FVec Ideal S2048x4096 .f32) : FVec Ideal S32768x4096 .f32 :=
  Host.dotGeneral dot_S32768x2048_S2048x4096_S32768x4096_1_0_0_1_n_n none (rms h g) w

end Cert.Reference3Ideal.Proj

namespace Cert.Kernel3Ideal.Proj

open Cert.Kernel3Ideal Cert.Kernel3Ideal.Gen

variable (m : (ℓ : Loc nD τ sig) → Buf (Elt Ideal) ℓ)

theorem idx_val : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The reference's term over the kernel's argument arrays. -/
abbrev REF (c : Dev nD) : FVec Ideal Cert.Reference3Ideal.S32768x4096 .f32 :=
  Cert.Reference3Ideal.Proj.term (m ((c : Thread nD τ).loc main_arg0)) (m ((c : Thread nD τ).loc main_arg1)) (m ((c : Thread nD τ).loc main_arg2))

/-- The first point of a point's block of rows. -/
abbrev start (t : Fin cfg0.N) : Fin cfg0.N := ⟨4 * (t.val / 4), Nat.lt_of_le_of_lt (Nat.mul_div_le _ _) t.isLt⟩

/-- The kept rows are the normalised rows of the block's first point. -/
theorem kept (c : Dev nD) (t : Fin cfg0.N) :
    (outsAt0 m c t.val t.isLt).2 = k0_pay1 (iblk m c 0 (start t)) (iblk m c 1 (start t)) := by
  funext y
  refine Pipeline.eq_of_write_hold_apply (fun n h => (outsAt0 m c n h).2) 4
    (fun t => k0_pay1 (iblk m c 0 t) (iblk m c 1 t)) ?_ ?_ t y
  · intro t h y
    rw [outsAt0_A m c t h]
    dsimp only
    frame_out
  · intro t h y
    rw [outsAt0_B m c t h]
    rfl

set_option maxHeartbeats 3200000 in
/-- The product of a block's normalised rows with a block of columns is the reference's term there. -/
theorem product (c : Dev nD) (t : Fin cfg0.N) (y) :
    k0_pay2 (k0_pay1 (iblk m c 0 (start t)) (iblk m c 1 (start t))) (iblk m c 2 t) y = REF m c (((cfg0.win 3).blk t).view.emb y) := by
  have hs : (start t).val / 4 = t.val / 4 := by simp [start]
  pointwise [k0_pay1, k0_pay2, REF, Cert.Reference3Ideal.Proj.term, Cert.Reference3Ideal.Proj.rms]
  blk_point [iblk, V, idx_val t, idx_val (start t), hs]

/-- At a block's first point. -/
theorem point_A (c : Dev nD) (t : Fin cfg0.N) (h0 : t.val % 4 = 0) (y) :
    (out0_A_3 c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)) y
      = REF m c (((cfg0.win 3).blk t).view.emb y) := by
  have hs : start t = t := Fin.ext (by show 4 * (t.val / 4) = t.val; omega)
  refine Eq.trans ?_ (product m c t y)
  rw [hs]
  frame_out

/-- At the block's other points. -/
theorem point_B (c : Dev nD) (t : Fin cfg0.N) (h0 : ¬t.val % 4 = 0) (y) :
    (out0_B_3 c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2) y
      = REF m c (((cfg0.win 3).blk t).view.emb y) := by
  have hs : start ⟨t.val - 1, Nat.lt_of_le_of_lt (Nat.sub_le _ _) t.isLt⟩ = start t :=
    Fin.ext (by show 4 * ((t.val - 1) / 4) = 4 * (t.val / 4); omega)
  refine Eq.trans ?_ (product m c t y)
  rw [← hs, kept m c ⟨t.val - 1, Nat.lt_of_le_of_lt (Nat.sub_le _ _) t.isLt⟩]
  frame_out
  exact congrFun (congrArg (fun x => k0_pay2 x (iblk m c 2 t)) (Memref.IsWhole.read_unread _ _)) y

/-- The result array after the run is the reference's term. -/
theorem final (c : Dev nD) : (dats m 0 c).arrAt 3 (cfgs 0).N = REF m c := by
  refine (dats m 0 c).arrAt_eq_of_covers 3 _ (by decide +kernel) fun t hf y => ?_
  blk_simp
  rw [after0_3]
  by_cases h : t.val % 4 = 0
  · rw [outsAt0_A m c t h]
    dsimp only
    exact point_A m c t h y
  · rw [outsAt0_B m c t h]
    dsimp only
    exact point_B m c t h y

end Cert.Kernel3Ideal.Proj

end
-- ==== Proof.Ideal3.Claims.lean ====
/- The claims about the normalised input projection: the frames of its three programs, what the idealised program keeps, and that its result
   array is the reference's. -/
module

public import proofs.«01_k».proof.Defs
public import proofs.«01_k».proof.Proof.Gen.Kernel3.Frame
public import proofs.«01_k».proof.Proof.Gen.Reference3Ideal.Run
public import proofs.«01_k».proof.Proof.Ideal3.Value

@[expose] public section

set_option maxRecDepth 16384

noncomputable section

namespace Cert.Proof.Proj

open Idealize.ShloMosaic Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- From arguments that agree, the kernel's result array and the reference's are one term of the arguments. -/
theorem algebraic : Cert.algebraic_Kernel3Ideal_Reference3Ideal := by
  intro m ρ m' ρ' _ hagree
  refine ⟨fun c => Cert.Kernel3Ideal.Proj.REF m c,
    (θ_run Cert.Kernel3Ideal.defs _ _).mono (fun _ h c => ⟨(h c).1.trans (Cert.Kernel3Ideal.Proj.final m c), (h c).2⟩)
      (Cert.Kernel3Ideal.Value.run_blocks (F := Ideal) m ρ),
    (θ_run Cert.Reference3Ideal.defs _ _).mono (fun _ h c => ⟨(h c).1.trans ?_, (h c).2⟩)
      (Cert.Reference3Ideal.Value.run (F := Ideal) m' ρ')⟩
  obtain ⟨h0, h1, h2⟩ := hagree c
  rw [h0, h1, h2]
  rfl

end Cert.Proof.Proj

end
-- ==== Proof.Ideal4.Value.lean ====
/- What the output mix leaves in its result: at every block of rows, the reference's term read there. -/
module

public import proofs.«01_k».proof.Proof.Gen.Kernel4Ideal.Value
public import proofs.«01_k».proof.Proof.Gen.Kernel4Ideal.Skeleton
public import proofs.«01_k».proof.Proof.Gen.Reference4Ideal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference4Ideal.Mix

open Cert.Reference4Ideal Cert.Reference4Ideal.Gen

/-- The reference's row normalisation with a gain. -/
def rms (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
    (broadcastInDim S32768x1 ![0] bcast_S32768_S32768x1_0 (Host.reduceAdd (mulf x x) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's gated recurrence output. -/
def glu (y : FVec Ideal S32768x1024 .f32) (wglu : FVec Ideal S1024x1024 .f32) (bglu : FVec Ideal S1024 .f32) : FVec Ideal S32768x1024 .f32 :=
  mulf y (Host.divf (broadcastInDim S32768x1024 ![] bcast_S_S32768x1024 (constant S_ .f32 0x3F800000#32))
    (addf (broadcastInDim S32768x1024 ![] bcast_S_S32768x1024 (constant S_ .f32 0x3F800000#32))
      (Host.exp (Host.negf (addf (Host.dotGeneral dot_S32768x1024_S1024x1024_S32768x1024_1_0_0_1_n_n none y wglu)
        (broadcastInDim S32768x1024 ![0, 1] bcast_S1x1024_S32768x1024_0_1 (broadcastInDim S1x1024 ![1] bcast_S1024_S1x1024_1 bglu)))))))

/-- Two halves side by side. -/
def beside (a b : FVec Ideal S32768x1024 .f32) : FVec Ideal S32768x2048 .f32 :=
  concatenate S32768x2048 1 [⟨S32768x1024, a⟩, ⟨S32768x1024, b⟩] concatenates_S32768x1024_S32768x1024_S32768x2048_d1

/-- The reference's term over its arguments. -/
def term (ya y : FVec Ideal S32768x1024 .f32) (h : FVec Ideal S32768x2048 .f32) (ga gb : FVec Ideal S1024 .f32)
    (wglu : FVec Ideal S1024x1024 .f32) (bglu : FVec Ideal S1024 .f32) (wo : FVec Ideal S2048x2048 .f32) : FVec Ideal S32768x2048 .f32 :=
  addf h (Host.dotGeneral dot_S32768x2048_S2048x2048_S32768x2048_1_0_0_1_n_n none (beside (rms ya ga) (rms (glu y wglu bglu) gb)) wo)

end Cert.Reference4Ideal.Mix

namespace Cert.Kernel4Ideal.Mix

open Cert.Kernel4Ideal Cert.Kernel4Ideal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The reference's term over the kernel's argument arrays. -/
abbrev REF (c : Dev nD) : FVec Ideal Cert.Reference4Ideal.S32768x2048 .f32 :=
  Cert.Reference4Ideal.Mix.term (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

set_option maxHeartbeats 3200000 in
/-- What a point stores at a place of its block is the reference's term at that place of the array. -/
theorem point (c : Dev nD) (t : Fin cfg0.N) (y) :
    k0_pay1 (k0_pay2 (iblk m c 0 t) (iblk m c 3 t)) (k0_pay3 (iblk m c 1 t) (iblk m c 5 t) (iblk m c 6 t)) (k0_pay4 (iblk m c 4 t))
      (iblk m c 2 t) (iblk m c 7 t) (iblk m c 8 t) y
      = REF m c (((cfg0.win 9).blk t).view.emb y) := by
  pointwise [k0_pay1, k0_pay2, k0_pay3, k0_pay4, REF, Cert.Reference4Ideal.Mix.term, Cert.Reference4Ideal.Mix.beside, Cert.Reference4Ideal.Mix.glu, Cert.Reference4Ideal.Mix.rms, Ideal.logistic]
  refine Eq.trans ?_ (add_assoc _ _ _)
  blk_point [iblk, V, idx_val t]

/-- The result array after the run is the reference's term. -/
theorem final (c : Dev nD) : (dats m 0 c).arrAt 9 (cfgs 0).N = REF m c := by
  refine (dats m 0 c).arrAt_eq_of_covers 9 _ (by decide +kernel) fun t hf y => ?_
  blk_simp
  rw [after0_9]
  frame_out
  exact point m c t y

end Cert.Kernel4Ideal.Mix

end
-- ==== Proof.Ideal4.Claims.lean ====
/- The claims about the output mix: the frames of its three programs, what the idealised program keeps, and that its result
   array is the reference's. -/
module

public import proofs.«01_k».proof.Defs
public import proofs.«01_k».proof.Proof.Gen.Kernel4.Frame
public import proofs.«01_k».proof.Proof.Gen.Reference4Ideal.Run
public import proofs.«01_k».proof.Proof.Ideal4.Value

@[expose] public section

set_option maxRecDepth 16384

noncomputable section

namespace Cert.Proof.Mix

open Idealize.ShloMosaic Idealize.SL.Sem

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

/-- From arguments that agree, the kernel's result array and the reference's are one term of the arguments. -/
theorem algebraic : Cert.algebraic_Kernel4Ideal_Reference4Ideal := by
  intro m ρ m' ρ' _ hagree
  refine ⟨fun c => Cert.Kernel4Ideal.Mix.REF m c,
    (θ_run Cert.Kernel4Ideal.defs _ _).mono (fun _ h c => ⟨(h c).1.trans (Cert.Kernel4Ideal.Mix.final m c), (h c).2⟩)
      (Cert.Kernel4Ideal.Value.run_blocks (F := Ideal) m ρ),
    (θ_run Cert.Reference4Ideal.defs _ _).mono (fun _ h c => ⟨(h c).1.trans ?_, (h c).2⟩)
      (Cert.Reference4Ideal.Value.run (F := Ideal) m' ρ')⟩
  obtain ⟨h0, h1, h2, h3, h4, h5, h6, h7⟩ := hagree c
  rw [h0, h1, h2, h3, h4, h5, h6, h7]
  rfl

end Cert.Proof.Mix

end
-- ==== Proof.Ideal5.Value.lean ====
/- What the gated per-layer step leaves in its result: at every block of rows, the reference's term read there. -/
module

public import proofs.«01_k».proof.Proof.Gen.Kernel5Ideal.Value
public import proofs.«01_k».proof.Proof.Gen.Kernel5Ideal.Skeleton
public import proofs.«01_k».proof.Proof.Gen.Reference5Ideal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference5Ideal.Ple

open Cert.Reference5Ideal Cert.Reference5Ideal.Gen

/-- The reference's row normalisation with a gain. -/
def rms (x : FVec Ideal S32768x2048 .f32) (g : FVec Ideal S2048 .f32) : FVec Ideal S32768x2048 .f32 :=
  mulf (mulf x (broadcastInDim S32768x2048 ![0, 1] bcast_S32768x1_S32768x2048_0_1 (Host.rsqrt (addf (Host.divf
    (broadcastInDim S32768x1 ![0] bcast_S32768_S32768x1_0 (Host.reduceAdd (mulf x x) (constant S_ .f32 0x00000000#32) reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

/-- The reference's gated sum, before the last normalisation. -/
def gated (h : FVec Ideal S32768x2048 .f32) (p : FVec Ideal S32768x256 .f32) (gn : FVec Ideal S2048 .f32)
    (wg : FVec Ideal S2048x2048 .f32) (wp : FVec Ideal S256x2048 .f32) : FVec Ideal S32768x2048 .f32 :=
  addf h (mulf (Host.divf (broadcastInDim S32768x2048 ![] bcast_S_S32768x2048 (constant S_ .f32 0x3F800000#32))
    (addf (broadcastInDim S32768x2048 ![] bcast_S_S32768x2048 (constant S_ .f32 0x3F800000#32))
      (Host.exp (Host.negf (Host.dotGeneral dot_S32768x2048_S2048x2048_S32768x2048_1_0_0_1_n_n none (rms h gn) wg)))))
    (Host.dotGeneral dot_S32768x256_S256x2048_S32768x2048_1_0_0_1_n_n none p wp))

/-- The reference's term over its arguments. -/
def term (h : FVec Ideal S32768x2048 .f32) (p : FVec Ideal S32768x256 .f32) (gn : FVec Ideal S2048 .f32)
    (wg : FVec Ideal S2048x2048 .f32) (wp : FVec Ideal S256x2048 .f32) (fn : FVec Ideal S2048 .f32) : FVec Ideal S32768x2048 .f32 :=
  rms (gated h p gn wg wp) fn

end Cert.Reference5Ideal.Ple

namespace Cert.Kernel5Ideal.Ple

open Cert.Kernel5Ideal Cert.Kernel5Ideal.Gen

variable (m : (ℓ : Loc nD τ sig) → Buf (Elt Ideal) ℓ)

theorem idx_val : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The reference's term over the kernel's argument arrays. -/
abbrev REF (c : Dev nD) : FVec Ideal Cert.Reference5Ideal.S32768x2048 .f32 :=
  Cert.Reference5Ideal.Ple.term (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

set_option maxHeartbeats 1600000 in
/-- What a point stores at a place of its block is the reference's term at that place of the array. -/
theorem point (c : Dev nD) (t : Fin cfg0.N) (y) :
    k0_pay1 (k0_pay2 (iblk m c 5 t)) (k0_pay3 (iblk m c 0 t) (iblk m c 2 t) (iblk m c 3 t) (iblk m c 1 t) (iblk m c 4 t)) y
      = REF m c (((cfg0.win 6).blk t).view.emb y) := by
  pointwise [k0_pay1, k0_pay2, k0_pay3, REF, Cert.Reference5Ideal.Ple.term, Cert.Reference5Ideal.Ple.gated, Cert.Reference5Ideal.Ple.rms, Ideal.logistic]
  blk_point [iblk, V, idx_val t]

/-- The result array after the run is the reference's term. -/
theorem final (c : Dev nD) : (dats m 0 c).arrAt 6 (cfgs 0).N = REF m c := by
  refine (dats m 0 c).arrAt_eq_of_covers 6 _ (by decide +kernel) fun t hf y => ?_
  blk_simp
  rw [after0_6]
  frame_out
  exact point m c t y

end Cert.Kernel5Ideal.Ple

end
-- ==== Proof.Ideal5.Claims.lean ====
/- The claims about the gated per-layer step: the frames of its three programs, what the idealised program keeps, and that its result
   array is the reference's. -/
module

public import proofs.«01_k».proof.Defs
public import proofs.«01_k».proof.Proof.Gen.Kernel5.Frame
public import proofs.«01_k».proof.Proof.Gen.Reference5Ideal.Run
public import proofs.«01_k».proof.Proof.Ideal5.Value

@[expose] public section

set_option maxRecDepth 16384

noncomputable section

namespace Cert.Proof.Ple

open Idealize.ShloMosaic Idealize.SL.Sem

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

/-- From arguments that agree, the kernel's result array and the reference's are one term of the arguments. -/
theorem algebraic : Cert.algebraic_Kernel5Ideal_Reference5Ideal := by
  intro m ρ m' ρ' _ hagree
  refine ⟨fun c => Cert.Kernel5Ideal.Ple.REF m c,
    (θ_run Cert.Kernel5Ideal.defs _ _).mono (fun _ h c => ⟨(h c).1.trans (Cert.Kernel5Ideal.Ple.final m c), (h c).2⟩)
      (Cert.Kernel5Ideal.Value.run_blocks (F := Ideal) m ρ),
    (θ_run Cert.Reference5Ideal.defs _ _).mono (fun _ h c => ⟨(h c).1.trans ?_, (h c).2⟩)
      (Cert.Reference5Ideal.Value.run (F := Ideal) m' ρ')⟩
  obtain ⟨h0, h1, h2, h3, h4, h5⟩ := hagree c
  change Cert.Reference5Ideal.Ple.term (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = _
  rw [h0, h1, h2, h3, h4, h5]

end Cert.Proof.Ple

end
-- ==== Proof.Ideal6.Run.lean ====
/- The state space mixer's body over whole buffers: it reads its six inputs' buffers, writes its output's, and ends. -/
module

public import proofs.«01_k».proof.Proof.Gen.Kernel6Ideal.Frame
public import Idealize.ShloMosaic.Lib.Exec

@[expose] public section

set_option maxRecDepth 16384

noncomputable section

namespace Cert.Kernel6Ideal.Ssm

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The windows' buffers: the sequence, the three matrices, the two tables of powers; the output is like the sequence. -/
abbrev Seq : Type := Memref sig .tc .vmem S1x8192x128 .f32
abbrev Mat : Type := Memref sig .tc .vmem S1x2048x2048 .bf16
abbrev Into : Type := Memref sig .tc .vmem S1x2048x1024 .bf16
abbrev Out : Type := Memref sig .tc .vmem S1x1024x2048 .bf16
abbrev Pow : Type := Memref sig .tc .vmem S1x16x512 .f32

variable (c : Dev nD) (i : grid0.Coords) (u : Seq) (hu : u.IsWhole) (a : Mat) (ha : a.IsWhole) (b : Into) (hb : b.IsWhole)
  (e : Out) (he : e.IsWhole) (p : Pow) (hp : p.IsWhole) (q : Pow) (hq : q.IsWhole) (y : Seq) (hy : y.IsWhole)

/-- What the body holds: its seven buffers, each at given contents. -/
abbrev Held (Xu : BufTy.Contents (Elt F) u.view.ty) (Xa : BufTy.Contents (Elt F) a.view.ty) (Xb : BufTy.Contents (Elt F) b.view.ty)
    (Xe : BufTy.Contents (Elt F) e.view.ty) (Xp : BufTy.Contents (Elt F) p.view.ty) (Xq : BufTy.Contents (Elt F) q.view.ty)
    (fy : BufTy.Contents (Elt F) y.view.ty) : sProp 𝕄 :=
  iprop((u.view.loc (c : Thread nD τ) ↦[u.view.set]{fullShare} Xu) ∗ (a.view.loc (c : Thread nD τ) ↦[a.view.set]{fullShare} Xa)
    ∗ (b.view.loc (c : Thread nD τ) ↦[b.view.set]{fullShare} Xb) ∗ (e.view.loc (c : Thread nD τ) ↦[e.view.set]{fullShare} Xe)
    ∗ (p.view.loc (c : Thread nD τ) ↦[p.view.set]{fullShare} Xp) ∗ (q.view.loc (c : Thread nD τ) ↦[q.view.set]{fullShare} Xq)
    ∗ (y.view.loc (c : Thread nD τ) ↦[y.view.set]{fullShare} fy))

variable (Xu : BufTy.Contents (Elt F) u.view.ty) (Xa : BufTy.Contents (Elt F) a.view.ty) (Xb : BufTy.Contents (Elt F) b.view.ty)
    (Xe : BufTy.Contents (Elt F) e.view.ty) (Xp : BufTy.Contents (Elt F) p.view.ty) (Xq : BufTy.Contents (Elt F) q.view.ty)

/-- The body's run from any contents of the output, with the pieces that it writes there. -/
@[irreducible] def body (fy : BufTy.Contents (Elt F) y.view.ty) :
      { L : List (View.Piece (Elt F) S1x8192x128 .f32) //
        Held c u a b e p q y Xu Xa Xb Xe Xp Xq fy
        ⊢ wp frame (wpE (defs₀ (F := F)) Variants.none (c : Thread nD τ) none) Set.univ
            (cc0_ssm (F := F) i u hu a ha b hb e he p hp q hq y hy)
            (fun _ => Held c u a b e p q y Xu Xa Xb Xe Xp Xq (y.view.writes (Elt F) fy L)) } := by
  refine ⟨?_, ?run⟩
  case run =>
    unfold cc0_ssm
    iintro ⟨Hu, Ha, Hb, He, Hp, Hq, Hy⟩
    sl_exec_parts
    sl_step
    sl_close

/-- The body with its inputs' buffers owned at their blocks and the output's at anything: afterwards the inputs' are as they were. -/
theorem run_owned (x0 : Vec F S1x8192x128 .f32) (x1 : Vec F S1x2048x2048 .bf16) (x2 : Vec F S1x2048x1024 .bf16)
    (x3 : Vec F S1x1024x2048 .bf16) (x4 x5 : Vec F S1x16x512 .f32) (K : PUnit → sProp 𝕄) :
    iprop(owns (c : Thread nD τ) u fullShare x0 ∗ owns (c : Thread nD τ) a fullShare x1 ∗ owns (c : Thread nD τ) b fullShare x2
      ∗ owns (c : Thread nD τ) e fullShare x3 ∗ owns (c : Thread nD τ) p fullShare x4 ∗ owns (c : Thread nD τ) q fullShare x5
      ∗ (∃ d, owns (c : Thread nD τ) y fullShare d)
      ∗ (iprop(owns (c : Thread nD τ) u fullShare x0 ∗ owns (c : Thread nD τ) a fullShare x1 ∗ owns (c : Thread nD τ) b fullShare x2
          ∗ owns (c : Thread nD τ) e fullShare x3 ∗ owns (c : Thread nD τ) p fullShare x4 ∗ owns (c : Thread nD τ) q fullShare x5
          ∗ (∃ d, owns (c : Thread nD τ) y fullShare d)) -∗ K ⟨⟩))
    ⊢ wp frame (wpE (defs₀ (F := F)) Variants.none (c : Thread nD τ) none) Set.univ
        (cc0_ssm (F := F) i u hu a ha b hb e he p hp q hq y hy) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  iapply (wp_wand_r frame (wpE (defs₀ (F := F)) Variants.none (c : Thread nD τ) none) Set.univ)
  isplitr [Hk]
  · iapply ((body c i u hu a ha b hb e he p hp q hq y hy f0 f1 f2 f3 f4 f5 f6).2)
    isplitl [H0]; · iexact H0
    isplitl [H1]; · iexact H1
    isplitl [H2]; · iexact H2
    isplitl [H3]; · iexact H3
    isplitl [H4]; · iexact H4
    isplitl [H5]; · iexact H5
    iexact H6
  iintro %_ ⟨H0, H1, H2, H3, H4, H5, H6⟩
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  iexists _, _; isplitr; swap; · iexact H6
  ipureintro; rfl

end Cert.Kernel6Ideal.Ssm

end
-- ==== Proof.Ideal6.Frame.lean ====
/- The state space mixer's launch with nothing said of its output: at any values and from any memory, every run ends
   with the arguments as they were and every semaphore counter at zero. -/
module

public import proofs.«01_k».proof.Proof.Ideal6.Run

@[expose] public section

set_option maxRecDepth 16384

noncomputable section

namespace Cert.Kernel6Ideal.Ssm

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at a point's slots is the body on the point's buffers. -/
theorem body_row (t : Fin cfg0.N) : defs₀ (F := F) .tc cfg0.body (cfg0.bodyArgs t (cfg0.slots t)) = bodyAt0 t := by
  unfold defs₀; rw [Defs.onTc_tc]

/-- The seven windows' buffers in use at a point. -/
abbrev bufU (t : Fin cfg0.N) : Seq := win0_0.stage (cfg0.slots t 0)
abbrev bufA (t : Fin cfg0.N) : Mat := win0_1.stage (cfg0.slots t 1)
abbrev bufB (t : Fin cfg0.N) : Into := win0_2.stage (cfg0.slots t 2)
abbrev bufE (t : Fin cfg0.N) : Out := win0_3.stage (cfg0.slots t 3)
abbrev bufP (t : Fin cfg0.N) : Pow := win0_4.stage (cfg0.slots t 4)
abbrev bufQ (t : Fin cfg0.N) : Pow := win0_5.stage (cfg0.slots t 5)
abbrev bufY (t : Fin cfg0.N) : Seq := win0_6.stage (cfg0.slots t 6)

/-- The output is the only window forgotten. -/
def unsaid : Fin 7 → Bool := fun w => w.val == 6

/-- The pipeline's data: the inputs' buffers hold their blocks, nothing is said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (bufU t) fullShare ((dats m 0 c).before 0 t d))
    ∗ (∃ d, owns (c : Thread nD τ) (bufA t) fullShare ((dats m 0 c).before 1 t d))
    ∗ (∃ d, owns (c : Thread nD τ) (bufB t) fullShare ((dats m 0 c).before 2 t d))
    ∗ (∃ d, owns (c : Thread nD τ) (bufE t) fullShare ((dats m 0 c).before 3 t d))
    ∗ (∃ d, owns (c : Thread nD τ) (bufP t) fullShare ((dats m 0 c).before 4 t d))
    ∗ (∃ d, owns (c : Thread nD τ) (bufQ t) fullShare ((dats m 0 c).before 5 t d))
    ∗ (∃ d, owns (c : Thread nD τ) (bufY t) fullShare d))

/-- and what it returns. -/
def post (c : Dev nD) (t : Fin cfg0.N) : sProp 𝕄 :=
  iprop((dats m 0 c).Φ t.succ ∗ (dats m 0 c).owesAt () t.succ
    ∗ owns (c : Thread nD τ) (bufU t) fullShare ((dats m 0 c).after 0 t)
    ∗ owns (c : Thread nD τ) (bufA t) fullShare ((dats m 0 c).after 1 t)
    ∗ owns (c : Thread nD τ) (bufB t) fullShare ((dats m 0 c).after 2 t)
    ∗ owns (c : Thread nD τ) (bufE t) fullShare ((dats m 0 c).after 3 t)
    ∗ owns (c : Thread nD τ) (bufP t) fullShare ((dats m 0 c).after 4 t)
    ∗ owns (c : Thread nD τ) (bufQ t) fullShare ((dats m 0 c).after 5 t)
    ∗ (∃ d, owns (c : Thread nD τ) (bufY t) fullShare d))

theorem leaves (c : Dev nD) (t : Fin cfg0.N) :
    pre m c t ⊢ wp Idealize.ShloMosaic.frame (wpE (defs₀ (F := F)) Variants.none c none) Set.univ (bodyAt0 t) (fun _ => post m c t) := by
  unfold pre post bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, H6⟩
  iapply (run_owned c (grid0.coords t) _ _ _ _ _ _ _ _ _ _ _ _ _ _ (iblk m c 0 t) (iblk m c 1 t) (iblk m c 2 t) (iblk m c 3 t)
    (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem obligation (c : Dev nD) : BodyObligation (dats (F := F) m 0 c) (defs₀ (F := F)) Variants.none () Set.univ unsaid := fun t => by
  rw [bigSep_W0, bigSep_W0, body_row]
  exact triple_restated (leaves m c t) rfl .rfl fun _ => .rfl

set_option backward.isDefEq.respectTransparency.types false in
/-- The launch: the arguments and the counters. -/
theorem launched : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ hs => ⟨fun c => have h := hs.1
    ⟨(Pipeline.RDat.FramePost.arr_in hs.1 c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩, hs.2⟩)
    (launched m ρ)

end Cert.Kernel6Ideal.Ssm

end
-- ==== Proof.Ideal6.Claims.lean ====
/- The claims about the state space mixer's call: the frames of its two programs, and what the idealised program keeps. -/
module

public import proofs.«01_k».proof.Defs
public import proofs.«01_k».proof.Proof.Bits6.Frame
public import proofs.«01_k».proof.Proof.Ideal6.Frame

@[expose] public section

set_option maxRecDepth 16384

noncomputable section

namespace Cert.Proof.Ssm

open Idealize.ShloMosaic Idealize.SL.Sem

theorem frame_p : Cert.quiescent_Kernel6 := fun m ρ _ => Cert.Kernel6.Ssm.frame m ρ

theorem frame_pi : Cert.quiescent_Kernel6Ideal := fun m ρ _ => Cert.Kernel6Ideal.Ssm.frame m ρ

theorem preserves : Cert.preserves_Kernel6_Kernel6Ideal := trivial

end Cert.Proof.Ssm

end
-- ==== Proof.lean ====
/- The proof of the claims: the calls one by one. Each call's frames, what its idealised program keeps, and where it is
   claimed, that its result array is the reference's, are proved in a module of its own. -/
module

public import proofs.«01_k».proof.Defs
public import proofs.«01_k».proof.Proof.Ideal1.Claims
public import proofs.«01_k».proof.Proof.Ideal1.Algebraic
public import proofs.«01_k».proof.Proof.Ideal2.Frames
public import proofs.«01_k».proof.Proof.Ideal2.Claims
public import proofs.«01_k».proof.Proof.Ideal3.Claims
public import proofs.«01_k».proof.Proof.Ideal4.Claims
public import proofs.«01_k».proof.Proof.Ideal5.Claims
public import proofs.«01_k».proof.Proof.Ideal6.Claims

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts,
    Attn.frame_p, Attn.frame_pi, Attn.frame_ri, Ffn.frame_p, Ffn.frame_pi, Ffn.frame_ri, Proj.frame_p, Proj.frame_pi, Proj.frame_ri,
    Mix.frame_p, Mix.frame_pi, Mix.frame_ri, Ple.frame_p, Ple.frame_pi, Ple.frame_ri, Ssm.frame_p, Ssm.frame_pi,
    Attn.preserves, Attn.algebraic, Ffn.preserves, Ffn.algebraic, Proj.preserves, Proj.algebraic, Mix.preserves, Mix.algebraic, Ple.preserves, Ple.algebraic, Ssm.preserves⟩

end Cert.Proof

end
